-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_rows [hPre_nonzero_rows : Cert.Pre_nonzero_rows.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_rows.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_rows [hPre_nonzero_rows : Cert.Pre_nonzero_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_rows.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonzero_rows [hKernelIdeal : Cert.KernelIdeal.Facts] [hPre_nonzero_rows : Cert.Pre_nonzero_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonzero_rows [hReferenceIdeal : Cert.ReferenceIdeal.Facts] [hPre_nonzero_rows : Cert.Pre_nonzero_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "half_ln2" .f32 0x3EB17218#32 (((1 / 2) * (Real.log 2) : ℝ) : EReal)

def algebraic_KernelIdeal_ReferenceIdeal_pre_nonzero_rows [hKernelIdeal : Cert.KernelIdeal.Facts] [hReferenceIdeal : Cert.ReferenceIdeal.Facts] [hPre_nonzero_rows : Cert.Pre_nonzero_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonzero_rows : Cert.Pre_nonzero_rows.Facts),
    quiescent_Kernel (hKernel := hKernel)
    ∧ quiescent_KernelIdeal (hKernelIdeal := hKernelIdeal)
    ∧ quiescent_KernelIdeal_pre_nonzero_rows (hKernelIdeal := hKernelIdeal) (hPre_nonzero_rows := hPre_nonzero_rows)
    ∧ quiescent_ReferenceIdeal (hReferenceIdeal := hReferenceIdeal)
    ∧ quiescent_ReferenceIdeal_pre_nonzero_rows (hReferenceIdeal := hReferenceIdeal) (hPre_nonzero_rows := hPre_nonzero_rows)
    ∧ preserves_Kernel_KernelIdeal
    ∧ algebraic_KernelIdeal_ReferenceIdeal_pre_nonzero_rows (hKernelIdeal := hKernelIdeal) (hReferenceIdeal := hReferenceIdeal) (hPre_nonzero_rows := hPre_nonzero_rows)
-- ==== Pre_nonzero_rows.lean ====
abbrev S8192x256 : Shape := ⟨2, ![8192, 256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S8192_d1 : S8192x256.ReducesTo [1] S8192
  h_S_ : 0 < S_.numel
  reducesTo_S8192_S_d0 : S8192.ReducesTo [0] S_

variable [Facts]

def fn {F : FTy → Type} [FloatOps F] (main_arg0 : FVec F S8192x256 .f32) : IVec S_ 1 :=
  let main_cst : FVec F S_ .f32 := constant S_ .f32 0x00000000#32
  let main_v0 : FVec F S8192x256 .f32 := broadcastInDim S8192x256 ![] bcast_S_S8192x256 main_cst
  let main_v1 : IVec S8192x256 1 := cmpf .une main_arg0 main_v0
  let main_c : IVec S_ 1 := constantI S_ 1 0#1
  let main_v2 : IVec S8192 1 := (fun x v => Host.reduce IntOp.ori x v reducesTo_S8192x256_S8192_d1 h_S_) main_v1 main_c
  let main_c_0 : IVec S_ 1 := constantI S_ 1 1#1
  let main_v3 : IVec S_ 1 := (fun x v => Host.reduce IntOp.andi x v reducesTo_S8192_S_d0 h_S_) main_v2 main_c_0
  main_v3
-- ==== Kernel.lean ====
abbrev S8192x256 : Shape := ⟨2, ![8192, 256]⟩
abbrev S1x1 : Shape := ⟨2, ![1, 1]⟩
abbrev S8192 : Shape := ⟨1, ![8192]⟩
abbrev S8192x1 : Shape := ⟨2, ![8192, 1]⟩
abbrev S1024x256 : Shape := ⟨2, ![1024, 256]⟩
abbrev S1024x8192 : Shape := ⟨2, ![1024, 8192]⟩
abbrev S1024 : Shape := ⟨1, ![1024]⟩
abbrev S1024x1 : Shape := ⟨2, ![1024, 1]⟩
abbrev S1024x128 : Shape := ⟨2, ![1024, 128]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S8192x256, .f32⟩
  | .hbm, ⟨1, _⟩ => ⟨S1x1, .f32⟩
  | .local _ .vmem, ⟨0, _⟩ => ⟨S8192x256, .f32⟩
  | .local _ .vmem, ⟨1, _⟩ => ⟨S1x1, .f32⟩
  | .local _ .vmem, ⟨2, _⟩ => ⟨S8192x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c1024_i32 : BitVec 32 := 1024#32
  let v4 : BitVec 32 := Scalar.muli arg0 c1024_i32
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "half_ln2" => some (((1 / 2) * (Real.log 2) : ℝ) : EReal)
  | _ => none
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x11 : Shape := ⟨2, ![8192, 11]⟩
abbrev S8192x10 : Shape := ⟨2, ![8192, 10]⟩
abbrev S8192x10x1 : Shape := ⟨3, ![8192, 10, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S8192x256, .f32⟩
  | .hbm, ⟨8, _⟩ => ⟨S256x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x11, .f32⟩
  | .hbm, ⟨27, _⟩ => ⟨S8192x11, .i32⟩
  | .hbm, ⟨28, _⟩ => ⟨S8192x10, .i32⟩
  | .hbm, ⟨29, _⟩ => ⟨S_, .i32⟩
  | .hbm, ⟨30, _⟩ => ⟨S8192x10, .i32⟩
  | .hbm, ⟨31, _⟩ => ⟨S8192x10, .i1⟩
  | .hbm, ⟨32, _⟩ => ⟨S_, .i32⟩
  | .hbm, ⟨33, _⟩ => ⟨S8192x10, .i32⟩
  | .hbm, ⟨34, _⟩ => ⟨S8192x10, .i32⟩
  | .hbm, ⟨35, _⟩ => ⟨S8192x10, .i32⟩
  | .hbm, ⟨36, _⟩ => ⟨S8192x10x1, .i32⟩
  | .hbm, ⟨37, _⟩ => ⟨S1, .i32⟩
  | .hbm, ⟨38, _⟩ => ⟨S_, .i32⟩
  | .hbm, ⟨39, _⟩ => ⟨S8192x10x1, .i32⟩
  | .hbm, ⟨40, _⟩ => ⟨S8192x10x1, .i1⟩
  | .hbm, ⟨41, _⟩ => ⟨S1x1x1, .i32⟩
  | .hbm, ⟨42, _⟩ => ⟨S8192x10x1, .i32⟩
  | .hbm, ⟨43, _⟩ => ⟨S8192x10x1, .i1⟩
  | .hbm, ⟨44, _⟩ => ⟨S8192x10x1, .i1⟩
  | .hbm, ⟨45, _⟩ => ⟨S_, .i1⟩
  | .hbm, ⟨46, _⟩ => ⟨S8192x10, .i1⟩
  | .hbm, ⟨47, _⟩ => ⟨S8192x10, .f32⟩
  | .hbm, ⟨48, _⟩ => ⟨S_, .f32⟩
  | .hbm, ⟨49, _⟩ => ⟨S8192x10, .f32⟩
  | .hbm, ⟨50, _⟩ => ⟨S8192x10, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_values : Ref sig .tc := ⟨.hbm, 26, rfl⟩
abbrev main_indices : Ref sig .tc := ⟨.hbm, 27, rfl⟩
abbrev main_v16 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩
abbrev main_cst_5 : Ref sig .tc := ⟨.hbm, 58, rfl⟩
abbrev main_v23 : Ref sig .tc := ⟨.hbm, 59, rfl⟩
abbrev main_v24 : Ref sig .tc := ⟨.hbm, 60, rfl⟩

abbrev nD : Nat := 1
abbrev τ : Topo := Topo.v7x

variable {F : FTy → Type} [FloatOps F]
-- ==== Proof.NonzeroRows.lean ====
/- What the precondition says: every row has an entry that is not zero. -/
module

public import proofs.«01_k».proof.Pre_nonzero_rows
public import Idealize.ShloMosaic.PureOps.Ideal.Laws
public import Idealize.ShloMosaic.Lib.Decide
public import Idealize.ShloMosaic.Lib.IdealHost
public import Idealize.ShloMosaic.Lib.Pointwise

@[expose] public section

set_option maxRecDepth 16384

noncomputable section

namespace Cert.Pre_nonzero_rows

open Idealize.ShloMosaic

/-- The shape relations the precondition's operations take. -/
instance facts : Facts where
  bcast_S_S8192x256 := by decide
  reducesTo_S8192x256_S8192_d1 := by decide
  h_S_ := by decide
  reducesTo_S8192_S_d0 := by decide

/-- A conjunction of one-bit words is 1 only when each of them is. -/
theorem of_fold_and {ι : Type} [DecidableEq ι] (s : Finset ι) (f : ι → BitVec 1) (h : Finset.fold IntOp.andi 1#1 f s = 1#1) :
    ∀ i ∈ s, f i = 1#1 := by
  induction s using Finset.induction_on with
  | empty => simp
  | insert a s ha ih =>
    rw [Finset.fold_insert ha] at h
    have hb : ∀ x y : BitVec 1, IntOp.andi x y = 1#1 → x = 1#1 ∧ y = 1#1 := by decide
    intro i hi
    rcases Finset.mem_insert.mp hi with rfl | hi
    · exact (hb _ _ h).1
    · exact ih (hb _ _ h).2 i hi

/-- A disjunction of one-bit words is 1 only when one of them is. -/
theorem of_fold_or {ι : Type} [DecidableEq ι] (s : Finset ι) (f : ι → BitVec 1) (h : Finset.fold IntOp.ori 0#1 f s = 1#1) :
    ∃ i ∈ s, f i = 1#1 := by
  induction s using Finset.induction_on with
  | empty => exact absurd (Finset.fold_empty.symm.trans h) (by decide)
  | insert a s ha ih =>
    rw [Finset.fold_insert ha] at h
    have hb : ∀ x y : BitVec 1, IntOp.ori x y = 1#1 → x = 1#1 ∨ y = 1#1 := by decide
    rcases hb _ _ h with h1 | h2
    · exact ⟨a, Finset.mem_insert_self _ _, h1⟩
    · obtain ⟨i, hi, hf⟩ := ih h2
      exact ⟨i, Finset.mem_insert_of_mem hi, hf⟩

/-- Where the precondition holds, every row has an entry that is not zero. -/
theorem row_nonzero (X : FVec Ideal S8192x256 .f32) (h : fn X = fun _ => 1#1) (i : Fin 8192) : ∃ k : Fin 256, X (ix2 i k) ≠ 0 := by
  have h0 : fn X ix0 = 1#1 := congrFun h ix0
  have hx : fn X ix0 = Finset.fold IntOp.andi 1#1 (fun i : Fin 8192 =>
      Finset.fold IntOp.ori 0#1 (fun k : Fin 256 => BitVec.ofBool (decide (X (ix2 i k) ≠ 0))) Finset.univ) Finset.univ := by
    unfold fn
    dsimp only
    pointwise
  obtain ⟨k, -, hk⟩ := of_fold_or _ _ (of_fold_and _ _ (hx.symm.trans h0) i (Finset.mem_univ _))
  refine ⟨k, ?_⟩
  cases hd : decide (X (ix2 i k) ≠ 0)
  · rw [hd] at hk
    exact absurd hk (by decide)
  · exact of_decide_eq_true hd

end Cert.Pre_nonzero_rows

end
-- ==== Proof.Network.lean ====
/- The selection network of the kernel, over any type with a "greater of two" and a "lesser of two": a merge sort by the
   odd-even merge, and the merge of two descending runs of sixteen that keeps the sixteen greatest. The lists are those of
   the kernel's source, so that the network over blocks of lanes and the network over the elements at one place of those
   blocks are the same function at two types. -/
module

public import Mathlib.Data.List.Basic
public import Mathlib.Data.Nat.Basic

@[expose] public section

namespace Cert.Network

variable {α β : Type}

/-- The entries at even places of a list. -/
def evens : List α → List α
  | [] => []
  | [a] => [a]
  | a :: _ :: l => a :: evens l

/-- The entries at odd places of a list. -/
def odds : List α → List α
  | [] => []
  | [_] => []
  | _ :: b :: l => b :: odds l

section
variable (mx mn : α → α → α)

/-- What the odd-even merge makes of the merged odd places and of the merged even places after the first: pair by pair the
    greater and then the lesser, and the last odd entry alone. -/
def comb : List α → List α → List α
  | a :: as, b :: bs => mx a b :: mn a b :: comb as bs
  | as, [] => as
  | [], bs => bs

/-- The odd-even merge of two descending runs of `2 ^ k` entries. -/
def oeMerge : Nat → List α → List α → List α
  | 0, a, b => List.zipWith mx a b ++ List.zipWith mn a b
  | k + 1, a, b =>
    match oeMerge k (evens a) (evens b) with
    | [] => []
    | e :: es => e :: comb mx mn (oeMerge k (odds a) (odds b)) es

/-- The descending merge sort of `2 ^ k` entries. -/
def sortDesc : Nat → List α → List α
  | 0, l => l
  | k + 1, l => oeMerge mx mn k (sortDesc k (l.take (2 ^ k))) (sortDesc k (l.drop (2 ^ k)))

/-- The half-cleaners that sort a bitonic list of `2 ^ k` entries descending. -/
def clean : Nat → List α → List α
  | 0, l => l
  | k + 1, l =>
    clean k (List.zipWith mx (l.take (2 ^ k)) (l.drop (2 ^ k))) ++ clean k (List.zipWith mn (l.take (2 ^ k)) (l.drop (2 ^ k)))

/-- The sixteen greatest of two descending runs of sixteen, descending. -/
def topMerge (a b : List α) : List α := clean mx mn 4 (List.zipWith mx a b.reverse)

/-- The sixteen greatest of four chunks of sixteen entries, descending. -/
def top64 (l : List α) : List α :=
  topMerge mx mn
    (topMerge mx mn (sortDesc mx mn 4 (l.take 16)) (sortDesc mx mn 4 ((l.drop 16).take 16)))
    (topMerge mx mn (sortDesc mx mn 4 ((l.drop 32).take 16)) (sortDesc mx mn 4 (l.drop 48)))

/-- A run of sixteen merged, for each re-arrangement in turn, with its own re-arrangement. -/
def rounds (rs : List (α → α)) (c : List α) : List α :=
  rs.foldl (fun c r => topMerge mx mn c (c.map r)) c

end

end Cert.Network
-- ==== Proof.Block.lean ====
/- What one grid point computes: the printed sequence of maxima, minima and rotations is the selection network of
   `Network.lean` over blocks of 128 lanes. -/
module

public import proofs.«01_k».proof.Proof.Gen.KernelIdeal.Value
public import proofs.«01_k».proof.Proof.Network
public import Idealize.ShloMosaic.Lib.Tactic
public import Idealize.ShloMosaic.Lib.Pipeline.ReadBack

@[expose] public section

set_option maxRecDepth 16384

noncomputable section

namespace Cert.KernelIdeal.Math

open Cert.KernelIdeal Cert.KernelIdeal.Gen Idealize.ShloMosaic Idealize.ShloMosaic.TcCoe Idealize.SL.Sem
open Cert.Network

variable {F : FTy → Type} [FloatOps F] [Named F]

/-- A block of 128 lanes of a row block. -/
abbrev Lanes (F : FTy → Type) : Type := FVec F S1024x128 .bf16

/-- The `n + 1`-st block of 128 lanes lies in the row block, for each of the 64. -/
theorem slices_ok (g : Fin 64) : S1024x8192.Slices ![0, 128 * g.val] S1024x128 := by
  refine ⟨rfl, fun a => ?_⟩
  have := g.isLt
  match a with
  | ⟨0, _⟩ => show 0 + 1024 ≤ 1024; omega
  | ⟨1, _⟩ => show 128 * g.val + 128 ≤ 8192; omega

/-- The 64 blocks of 128 lanes of a row block, in order. -/
def laneBlocks (e : FVec F S1024x8192 .bf16) : List (Lanes F) :=
  List.ofFn fun g : Fin 64 => extractStridedSlice S1024x128 ![0, 128 * g.val] e (slices_ok g)

/-- The seven rotations of the lanes, by 1, 2, 4, … 64. -/
def rotations : List (Lanes F → Lanes F) :=
  [1#32, 2#32, 4#32, 8#32, 16#32, 32#32, 64#32].map fun n x => dynamicRotate 1 n none x rotates_S1024x128_d1

/-- The sixteen candidates each lane holds at the end. -/
def cands (e : FVec F S1024x8192 .bf16) : List (Lanes F) :=
  rounds maximumf minimumf rotations (top64 maximumf minimumf (laneBlocks e))

/-- The sum of the entries 1 to 10 of a list of candidates, first to last. -/
def esum : List (Lanes F) → FVec F S1024x128 .f32
  | _ :: a :: l => (l.take 9).foldl (fun s x => addf s (extf .f32 x bitsLt_bf16_f32)) (extf .f32 a bitsLt_bf16_f32)
  | _ => constant S1024x128 .f32 0x00000000#32

/-- A row block's part of the loss, added to what is accumulated. -/
def finish (eall : FVec F S1024x1 .f32) (es : FVec F S1024x128 .f32) (acc : Vec F S1x1 .f32) : FVec F S1x1 .f32 :=
  addf (shapeCast S1x1 acc shapeCasts_S1x1_S1x1)
    (shapeCast S1x1
      (multiReduction .add [0] S1
        (subf (log eall)
          (log (shapeCast S1024x1
            (multiReduction .maximumf [1] S1024 es 0xFF800000#32 reduces_S1024x128_S1024 (.inl rfl) rfl)
            shapeCasts_S1024_S1024x1)))
        0x00000000#32 reduces_S1024x1_S1 (.inl rfl) rfl)
      shapeCasts_S1_S1x1)

/-- What a grid point adds to what is accumulated, from all the rows `v3` and the block's own rows `v6`. -/
def blockVal (v3 : Vec F S8192x256 .bf16) (v6 : Vec F S1024x256 .bf16) (acc : Vec F S1x1 .f32) : FVec F S1x1 .f32 :=
  finish (k0_pay4 v3 v6) (esum (cands (k0_pay5 v3 v6))) acc

variable (c : Dev nD) (i : grid0.Coords) (arg1 : Memref sig .tc .vmem S8192x256 .f32) (harg1 : arg1.IsWhole)
  (arg2 : Memref sig .tc .vmem S1x1 .f32) (harg2 : arg2.IsWhole) (arg3 : Memref sig .tc .vmem S8192x256 .bf16) (harg3 : arg3.IsWhole)
  (x0 : Vec F S8192x256 .f32) (xo1 : Vec F S1x1 .f32) (xs0 : Vec F S8192x256 .bf16) (acc : Vec F S1x1 .f32)

/-- The sequence a middle point runs is the network: the payload of its one store. -/
theorem pay_B :
    k0_pay1368 (kernelRun0_B.sl.r c i arg3 harg3 xs0) (kernelRun0_B.sl.v1481 c i arg3 harg3 xs0)
      (kernelRun0_B.sl.v1482 c i arg3 harg3 xs0) (kernelRun0_B.sl.v1483 c i arg3 harg3 xs0)
      (kernelRun0_B.sl.v1494 c i arg3 harg3 xs0) (kernelRun0_B.sl.v1495 c i arg3 harg3 xs0) acc
    = blockVal
        (View.readAt (Elt F) arg3.view (Rect.unit (s := S8192x256) ![0, 0] S8192x256.size inb_S8192x256_S8192x256_0_0).toLoadRect (harg3.unread xs0))
        (View.readAt (Elt F) arg3.view (Rect.unit (s := S8192x256) (k0_off1 i) S1024x256.size (k0_off1_inb i)).toLoadRect (harg3.unread xs0)) acc := by
  sl_kernel_rfl

/-- The same at the last point. -/
theorem pay_C :
    k0_pay1368 (kernelRun0_C.sl.r c i arg3 harg3 xs0) (kernelRun0_C.sl.v1481 c i arg3 harg3 xs0)
      (kernelRun0_C.sl.v1482 c i arg3 harg3 xs0) (kernelRun0_C.sl.v1483 c i arg3 harg3 xs0)
      (kernelRun0_C.sl.v1494 c i arg3 harg3 xs0) (kernelRun0_C.sl.v1495 c i arg3 harg3 xs0) acc
    = blockVal
        (View.readAt (Elt F) arg3.view (Rect.unit (s := S8192x256) ![0, 0] S8192x256.size inb_S8192x256_S8192x256_0_0).toLoadRect (harg3.unread xs0))
        (View.readAt (Elt F) arg3.view (Rect.unit (s := S8192x256) (k0_off1 i) S1024x256.size (k0_off1_inb i)).toLoadRect (harg3.unread xs0)) acc := by
  sl_kernel_rfl

/-- The same at the first point, whose loads read the rows it has just stored. -/
theorem pay_A :
    k0_pay1368 (kernelRun0_A.sl.r c i arg1 harg1 arg3 x0) (kernelRun0_A.sl.v1481 c i arg1 harg1 arg3 x0)
      (kernelRun0_A.sl.v1482 c i arg1 harg1 arg3 x0) (kernelRun0_A.sl.v1483 c i arg1 harg1 arg3 x0)
      (kernelRun0_A.sl.v1494 c i arg1 harg1 arg3 x0) (kernelRun0_A.sl.v1495 c i arg1 harg1 arg3 x0) acc
    = blockVal
        (arg3.view.readCov (kernelRun0_A.sl.HS0_1 c arg1 harg1 x0) (Rect.unit (s := S8192x256) ![0, 0] S8192x256.size inb_S8192x256_S8192x256_0_0).toLoadRect)
        (arg3.view.readCov (kernelRun0_A.sl.HS0_1 c arg1 harg1 x0) (Rect.unit (s := S8192x256) (k0_off1 i) S1024x256.size (k0_off1_inb i)).toLoadRect) acc := by
  sl_kernel_rfl

/-- The offsets of an access at the start of an array. -/
theorem hz : (![0, 0] : Fin 2 → Nat) = fun _ => 0 := funext fun a => by fin_cases a <;> rfl

/-- Each offset of an access at the start of an array is zero. -/
theorem zero_ok : ∀ a : Fin 2, (![0, 0] : Fin 2 → Nat) a = 0 := fun a => by fin_cases a <;> rfl

/-- The 1024 rows a grid point works on, of all the rows. -/
abbrev rowsOf (xs : Vec F S8192x256 .bf16) : Vec F S1024x256 .bf16 :=
  View.ld xs (Rect.unit (s := S8192x256) (k0_off1 i) S1024x256.size (k0_off1_inb i))

/-- A middle point leaves the block's part added to what the point before left. -/
theorem out_B (hc0 : ¬cond0_0 i) (hc1 : ¬cond0_1 i) (hc2 : ¬cond0_2 i) :
    out0_B_1 c i arg1 harg1 arg2 harg2 arg3 harg3 hc0 hc1 hc2 x0 xo1 xs0 = blockVal xs0 (rowsOf i xs0) xo1 := by
  unfold out0_B_1
  rw [View.read_writes_eq_canon _ _ _ (cover0_B_1 c i arg1 harg1 arg2 harg2 arg3 harg3 hc0 hc1 hc2 x0 xo1 xs0)]
  unfold kernelRun0_B
  dsimp only
  rw [View.canon_unit_zero hz, pay_B]
  simp only [View.readAt_eq_ld, harg2.read_unread, harg3.read_unread, View.ld_unit_zero (S := S8192x256) hz,
    View.ld_unit_zero (S := S1x1) hz]

/-- The last point leaves the same, divided by the number of rows. -/
theorem out_C (hc0 : ¬cond0_0 i) (hc1 : ¬cond0_1 i) (hc2 : cond0_2 i) :
    out0_C_1 c i arg1 harg1 arg2 harg2 arg3 harg3 hc0 hc1 hc2 x0 xo1 xs0 = k0_pay1 (blockVal xs0 (rowsOf i xs0) xo1) := by
  unfold out0_C_1
  rw [View.read_writes_eq_canon _ _ _ (cover0_C_1 c i arg1 harg1 arg2 harg2 arg3 harg3 hc0 hc1 hc2 x0 xo1 xs0)]
  unfold kernelRun0_C
  dsimp only
  unfold kernelRun0_C.sl.v1520 kernelRun0_C.sl.H1_1
  rw [View.canon_cons_unit_zero (S := S1x1) hz, View.readCov_unit_zero (S := S1x1) _ hz, pay_C]
  simp only [View.readAt_eq_ld, harg2.read_unread, harg3.read_unread, View.ld_unit_zero (S := S8192x256) hz,
    View.ld_unit_zero (S := S1x1) hz]

/-- The first point leaves the block's part added to zero, over the rows it has normalised. -/
theorem out_A (hc0 : cond0_0 i) (hc1 : cond0_1 i) (hc2 : ¬cond0_2 i) :
    out0_A_1 c i arg1 harg1 arg2 harg2 arg3 harg3 hc0 hc1 hc2 x0 = blockVal (k0_pay2 x0) (rowsOf i (k0_pay2 x0)) k0_pay1367 := by
  unfold out0_A_1
  rw [View.read_writes_eq_canon _ _ _ (cover0_A_1 c i arg1 harg1 arg2 harg2 arg3 harg3 hc0 hc1 hc2 x0)]
  unfold kernelRun0_A
  dsimp only
  rw [pay_A]
  unfold kernelRun0_A.sl.v1513 kernelRun0_A.sl.H1_1 kernelRun0_A.sl.HS0_1
  rw [View.canon_cons_unit_zero (S := S1x1) hz, View.readCov_unit_zero (S := S1x1) _ hz,
    View.readCov_fill (s := S8192x256) arg3.view _ _ _ _ zero_ok, View.readCov_fill (s := S8192x256) arg3.view _ _ _ _ zero_ok]
  simp only [View.readAt_eq_ld, harg1.read_unread, View.ld_unit_zero (S := S8192x256) hz]

/-- The first point leaves the normalised rows in the carried buffer. -/
theorem sout_A (hc0 : cond0_0 i) (hc1 : cond0_1 i) (hc2 : ¬cond0_2 i) :
    sout0_A_0 c i arg1 harg1 arg2 harg2 arg3 harg3 hc0 hc1 hc2 x0 = k0_pay2 x0 := by
  unfold sout0_A_0
  rw [View.read_writes_eq_canon _ _ _ (scover0_A_0 c i arg1 harg1 arg2 harg2 arg3 harg3 hc0 hc1 hc2 x0)]
  unfold kernelRun0_A
  dsimp only
  unfold kernelRun0_A.sl.HS0_1
  rw [View.canon_unit_zero hz]
  simp only [View.readAt_eq_ld, harg1.read_unread, View.ld_unit_zero (S := S8192x256) hz]

end Cert.KernelIdeal.Math

end
-- ==== Proof.NetworkFacts.lean ====
/- The selection network selects. Seen through one threshold an entry is one bit, the greater of two is "or" and the lesser
   of two is "and"; a descending run of which `n` entries reach the threshold is then `stair`, and the network turns stairs
   into the stair of the total. -/
module

public import proofs.«01_k».proof.Proof.Network
public import Mathlib.Data.List.Count
public import Mathlib.Data.Fintype.Basic
public import Mathlib.Algebra.Order.Ring.Nat
public import Mathlib.Tactic.IntervalCases

@[expose] public section

set_option maxRecDepth 16384

namespace Cert.Network

variable {α β : Type}

/-! ## The network commutes with a map that keeps the two operations -/

section
variable (mx mn : α → α → α) (mx' mn' : β → β → β) (h : α → β)
  (hmx : ∀ a b, h (mx a b) = mx' (h a) (h b)) (hmn : ∀ a b, h (mn a b) = mn' (h a) (h b))

/-- Taking the entries at even places commutes with a map. -/
theorem map_evens : ∀ l : List α, (evens l).map h = evens (l.map h)
  | [] => rfl
  | [_] => rfl
  | a :: _ :: l => congrArg (h a :: ·) (map_evens l)

/-- Taking the entries at odd places commutes with a map. -/
theorem map_odds : ∀ l : List α, (odds l).map h = odds (l.map h)
  | [] => rfl
  | [_] => rfl
  | _ :: b :: l => congrArg (h b :: ·) (map_odds l)

include hmx in
/-- The entrywise maximum of two lists commutes with a map that turns one maximum into the other. -/
theorem map_zip_mx : ∀ a b : List α, (List.zipWith mx a b).map h = List.zipWith mx' (a.map h) (b.map h)
  | [], _ => by simp
  | _ :: _, [] => by simp
  | x :: a, y :: b => by simp only [List.zipWith_cons_cons, List.map_cons, hmx, map_zip_mx a b]

include hmx hmn

/-- The last exchange of a merge commutes with a map that respects maximum and minimum. -/
theorem map_comb : ∀ a b : List α, (comb mx mn a b).map h = comb mx' mn' (a.map h) (b.map h)
  | [], [] => rfl
  | [], _ :: _ => rfl
  | _ :: _, [] => rfl
  | x :: a, y :: b => by simp only [comb, List.map_cons, hmx, hmn, map_comb a b]

/-- The odd-even merge commutes with such a map. -/
theorem map_oeMerge : ∀ (k : Nat) (a b : List α), (oeMerge mx mn k a b).map h = oeMerge mx' mn' k (a.map h) (b.map h)
  | 0, a, b => by
    simp only [oeMerge, List.map_append]
    rw [map_zip_mx mx mx' h hmx, map_zip_mx mn mn' h hmn]
  | k + 1, a, b => by
    have he := map_oeMerge k (evens a) (evens b)
    have ho := map_oeMerge k (odds a) (odds b)
    rw [map_evens, map_evens] at he
    rw [map_odds, map_odds] at ho
    simp only [oeMerge]
    rw [← he, ← ho]
    cases oeMerge mx mn k (evens a) (evens b) with
    | nil => rfl
    | cons e es => simp only [List.map_cons, map_comb mx mn mx' mn' h hmx hmn]

/-- The sorting network commutes with such a map. -/
theorem map_sortDesc : ∀ (k : Nat) (l : List α), (sortDesc mx mn k l).map h = sortDesc mx' mn' k (l.map h)
  | 0, _ => rfl
  | k + 1, l => by
    simp only [sortDesc, map_oeMerge mx mn mx' mn' h hmx hmn, map_sortDesc k, List.map_take, List.map_drop]

/-- The bitonic clean-up commutes with such a map. -/
theorem map_clean : ∀ (k : Nat) (l : List α), (clean mx mn k l).map h = clean mx' mn' k (l.map h)
  | 0, _ => rfl
  | k + 1, l => by
    simp only [clean, List.map_append, map_clean k, map_zip_mx mx mx' h hmx, map_zip_mx mn mn' h hmn, List.map_take,
      List.map_drop]

/-- The merge that keeps the sixteen greatest commutes with such a map. -/
theorem map_topMerge (a b : List α) : (topMerge mx mn a b).map h = topMerge mx' mn' (a.map h) (b.map h) := by
  simp only [topMerge, map_clean mx mn mx' mn' h hmx hmn, map_zip_mx mx mx' h hmx, List.map_reverse]

/-- The selection of sixteen out of sixty-four commutes with such a map. -/
theorem map_top64 (l : List α) : (top64 mx mn l).map h = top64 mx' mn' (l.map h) := by
  simp only [top64, map_topMerge mx mn mx' mn' h hmx hmn, map_sortDesc mx mn mx' mn' h hmx hmn, List.map_take, List.map_drop]

end

/-! ## On bits -/

/-- `n` places of a descending run of bits of which `m` are set. -/
def stair (n m : Nat) : List Bool := (List.range n).map fun i => decide (i < m)

/-- A staircase is no higher than its length. -/
theorem stair_min (n m : Nat) : stair n m = stair n (min m n) := by
  unfold stair
  refine List.map_congr_left fun i hi => ?_
  have := List.mem_range.mp hi
  simp only [decide_eq_decide]; omega

/-- The odd-even merge of two stairs of bits, up to eight each, is the stair of the total. -/
theorem oeMerge_stair (k : Nat) (hk : k ≤ 3) (a b : Nat) (ha : a ≤ 2 ^ k) (hb : b ≤ 2 ^ k) :
    oeMerge or and k (stair (2 ^ k) a) (stair (2 ^ k) b) = stair (2 ^ (k + 1)) (a + b) := by
  have key : ∀ k : Fin 4, ∀ a b : Fin 9, a.val ≤ 2 ^ k.val → b.val ≤ 2 ^ k.val →
      oeMerge or and k.val (stair (2 ^ k.val) a.val) (stair (2 ^ k.val) b.val) = stair (2 ^ (k.val + 1)) (a.val + b.val) := by
    decide +kernel
  have h8 : 2 ^ k ≤ 8 := Nat.pow_le_pow_right (n := 2) (by omega) hk
  exact key ⟨k, by omega⟩ ⟨a, by omega⟩ ⟨b, by omega⟩ ha hb

/-- The merge sort of bits is the stair of how many are set. -/
theorem sortDesc_bits : ∀ (k : Nat), k ≤ 4 → ∀ l : List Bool, l.length = 2 ^ k →
    sortDesc or and k l = stair (2 ^ k) (l.count true)
  | 0, _, l, hl => by
    match l, hl with
    | [true], _ => rfl
    | [false], _ => rfl
  | k + 1, hk, l, hl => by
    have h2 : (2 : Nat) ^ (k + 1) = 2 ^ k + 2 ^ k := by rw [pow_succ]; omega
    rw [sortDesc, sortDesc_bits k (by omega) (l.take (2 ^ k)) (by rw [List.length_take]; omega),
      sortDesc_bits k (by omega) (l.drop (2 ^ k)) (by rw [List.length_drop]; omega), oeMerge_stair k (by omega) _ _
        (List.count_le_length.trans (by rw [List.length_take]; omega))
        (List.count_le_length.trans (by rw [List.length_drop]; omega)),
      ← List.count_append, List.take_append_drop]

/-- The merge of two stairs of sixteen is the stair of the total. -/
theorem topMerge_stair (a b : Nat) : topMerge or and (stair 16 a) (stair 16 b) = stair 16 (a + b) := by
  have key : ∀ a b : Fin 17, topMerge or and (stair 16 a.val) (stair 16 b.val) = stair 16 (a.val + b.val) := by
    decide +kernel
  rw [stair_min _ a, stair_min _ b, stair_min _ (a + b)]
  refine (key ⟨min a 16, by omega⟩ ⟨min b 16, by omega⟩).trans ?_
  rw [stair_min]
  congr 1
  show min (min a 16 + min b 16) 16 = _
  omega

/-- The sixteen greatest of sixty-four bits are the stair of how many are set. -/
theorem top64_bits (l : List Bool) (hl : l.length = 64) : top64 or and l = stair 16 (l.count true) := by
  have h1 : ((l.take 16).count true + ((l.drop 16).take 16).count true)
      + (((l.drop 32).take 16).count true + (l.drop 48).count true) = l.count true := by
    conv_rhs => rw [← List.take_append_drop 16 l, ← List.take_append_drop 16 (l.drop 16),
      ← List.take_append_drop 16 ((l.drop 16).drop 16)]
    simp only [List.count_append, List.drop_drop, Nat.reduceAdd]
    omega
  unfold top64
  rw [sortDesc_bits 4 (by omega) _ (by simp [hl]), sortDesc_bits 4 (by omega) _ (by simp [hl]),
    sortDesc_bits 4 (by omega) _ (by simp [hl]), sortDesc_bits 4 (by omega) _ (by simp [hl])]
  show topMerge or and (topMerge or and (stair 16 _) (stair 16 _)) (topMerge or and (stair 16 _) (stair 16 _)) = _
  rw [topMerge_stair, topMerge_stair, topMerge_stair, h1]

end Cert.Network
-- ==== Proof.Select.lean ====
/- What the selection network of one grid point selects: at every lane, the sixteen greatest entries of the row. -/
module

public import proofs.«01_k».proof.Proof.Block
public import proofs.«01_k».proof.Proof.NetworkFacts
public import Idealize.ShloMosaic.PureOps.Ideal
public import Idealize.ShloMosaic.Lib.Pointwise
public import Mathlib.Data.EReal.Basic
public import Mathlib.Algebra.BigOperators.Fin
public import Mathlib.Order.Interval.Finset.Fin

@[expose] public section

set_option maxRecDepth 16384

noncomputable section

namespace Cert.KernelIdeal.Math

open Cert.KernelIdeal Cert.KernelIdeal.Gen Idealize.ShloMosaic Idealize.ShloMosaic.TcCoe
open Cert.Network

/-! ## Sums over a window of lanes -/

/-- The sum of `f` over the `s` lanes up to `l`, going back round the end. -/
def win (f : Fin 128 → ℕ) (s : ℕ) (l : Fin 128) : ℕ := ∑ m ∈ Finset.range s, f (l - Fin.ofNat 128 m)

/-- A window of one lane is the lane. -/
theorem win_one (f : Fin 128 → ℕ) (l : Fin 128) : win f 1 l = f l := by
  simp [win]

/-- A window and the window before it make the window of twice the width. -/
theorem win_double (f : Fin 128 → ℕ) (s : ℕ) (l : Fin 128) : win f s l + win f s (l - Fin.ofNat 128 s) = win f (s + s) l := by
  unfold win
  rw [Finset.sum_range_add]
  congr 1
  refine Finset.sum_congr rfl fun m _ => ?_
  congr 1
  apply Fin.ext
  simp only [Fin.sub_def, Fin.ofNat]
  omega

/-- The window of all the lanes holds every lane once. -/
theorem win_all (f : Fin 128 → ℕ) (l : Fin 128) : win f 128 l = ∑ k, f k := by
  unfold win
  rw [Finset.sum_range]
  refine Fintype.sum_equiv (Equiv.subLeft l) _ _ fun m => ?_
  congr 1
  apply Fin.ext
  have := m.isLt
  simp only [Equiv.subLeft_apply, Fin.sub_def, Fin.ofNat]
  omega

/-! ## The network seen through one threshold -/

/-- Whether an entry reaches the threshold `t`. -/
def bit (t : EReal) (j : S1024x128.Idx) (v : Lanes Ideal) : Bool := decide (t ≤ v j)

/-- Whether a maximum reaches a threshold: whether either does. -/
theorem bit_max (t : EReal) (j : S1024x128.Idx) (a b : Lanes Ideal) : bit t j (maximumf a b) = (bit t j a || bit t j b) := by
  show decide (t ≤ max (a j) (b j)) = _
  simp [bit, le_max_iff]

/-- Whether a minimum reaches a threshold: whether both do. -/
theorem bit_min (t : EReal) (j : S1024x128.Idx) (a b : Lanes Ideal) : bit t j (minimumf a b) = (bit t j a && bit t j b) := by
  show decide (t ≤ min (a j) (b j)) = _
  simp [bit, le_min_iff]

/-- A rotation by `n` lanes reads `n` lanes back. -/
theorem bit_rotate (t : EReal) (r : Fin 1024) (l : Fin 128) (n : ℕ) (hn : n < 128) (v : Lanes Ideal) :
    bit t (ix2 r l) (dynamicRotate 1 (BitVec.ofNat 32 n) none v rotates_S1024x128_d1)
      = bit t (ix2 r (l - Fin.ofNat 128 n)) v := by
  unfold bit dynamicRotate
  have : (fun b => if b = 1 then (⟨((ix2 r l b).val + S1024x128.size b - ((BitVec.ofNat 32 n).toNat + 0) % S1024x128.size b)
        % S1024x128.size b, Nat.mod_lt _ (Fin.pos (ix2 r l b))⟩ : Fin (S1024x128.size b)) else ix2 r l b)
      = (ix2 r (l - Fin.ofNat 128 n) : S1024x128.Idx) := by
    have hl := l.isLt
    funext b
    match b with
    | ⟨0, _⟩ => rfl
    | ⟨1, _⟩ =>
      apply Fin.ext
      show (l.val + 128 - (n % 2 ^ 32 + 0) % 128) % 128 = (128 - n % 128 + l.val) % 128
      omega
  exact congrArg (fun i => decide (t ≤ v i)) this

/-- One round: every lane's sixteen merged with the sixteen of the lane `n` back. -/
theorem round_bits (t : EReal) (r : Fin 1024) (f : Fin 128 → ℕ) (n : ℕ) (hn : n < 128) (c : List (Lanes Ideal))
    (hc : ∀ l, c.map (bit t (ix2 r l)) = stair 16 (win f n l)) (l : Fin 128) :
    (topMerge maximumf minimumf c
        (c.map fun x => dynamicRotate 1 (BitVec.ofNat 32 n) none x rotates_S1024x128_d1)).map (bit t (ix2 r l))
      = stair 16 (win f (n + n) l) := by
  rw [map_topMerge _ _ or and (bit t (ix2 r l)) (bit_max t _) (bit_min t _), hc, List.map_map]
  have : bit t (ix2 r l) ∘ (fun x : Lanes Ideal => dynamicRotate 1 (BitVec.ofNat 32 n) none x rotates_S1024x128_d1)
      = bit t (ix2 r (l - Fin.ofNat 128 n)) := funext fun v => bit_rotate t r l n hn v
  rw [this, hc, topMerge_stair, win_double]

/-- The place in a row of lane `l` of the `g + 1`-st block of 128. -/
def colOf (g : Fin 64) (l : Fin 128) : Fin 8192 := ⟨128 * g.val + l.val, by omega⟩

/-- The first sixteen: those of the 64 entries at one lane. -/
theorem top64_lanes (t : EReal) (r : Fin 1024) (l : Fin 128) (e : FVec Ideal S1024x8192 .bf16) :
    (top64 maximumf minimumf (laneBlocks e)).map (bit t (ix2 r l))
      = stair 16 (Finset.univ.filter fun g : Fin 64 => t ≤ e (ix2 r (colOf g l))).card := by
  rw [map_top64 _ _ or and (bit t (ix2 r l)) (bit_max t _) (bit_min t _)]
  rw [top64_bits _ (by simp [laneBlocks])]
  congr 1
  have h : (laneBlocks e).map (bit t (ix2 r l)) = List.ofFn fun g : Fin 64 => decide (t ≤ e (ix2 r (colOf g l))) := by
    unfold laneBlocks
    rw [List.map_ofFn]
    congr 1
    funext g
    show decide (t ≤ e _) = _
    congr 3
    funext a
    match a with
    | ⟨0, _⟩ => exact Fin.ext (Nat.zero_add _)
    | ⟨1, _⟩ => rfl
  rw [h, List.ofFn_eq_map, List.count_eq_countP, List.countP_map, Finset.card_def, Finset.filter_val, ← Multiset.countP_eq_card_filter,
    Fin.univ_def]
  show _ = Multiset.countP _ (↑(List.finRange 64) : Multiset (Fin 64))
  rw [Multiset.coe_countP]
  refine List.countP_congr fun g _ => ?_
  simp

/-- How many entries of row `r` reach the threshold, counted lane by lane. -/
theorem sum_lanes (t : EReal) (r : Fin 1024) (e : FVec Ideal S1024x8192 .bf16) :
    ∑ l : Fin 128, (Finset.univ.filter fun g : Fin 64 => t ≤ e (ix2 r (colOf g l))).card
      = (Finset.univ.filter fun j : Fin 8192 => t ≤ e (ix2 r j)).card := by
  simp only [Finset.card_filter]
  rw [Finset.sum_comm, ← Fintype.sum_prod_type' (f := fun (g : Fin 64) (l : Fin 128) => if t ≤ e (ix2 r (colOf g l)) then 1 else 0)]
  refine Fintype.sum_equiv (finProdFinEquiv (m := 64) (n := 128)) _ _ fun p => ?_
  have : colOf p.1 p.2 = finProdFinEquiv (m := 64) (n := 128) p := Fin.ext (Nat.add_comm _ _)
  rw [this]

/-- At the end each lane's sixteen candidates reach a threshold exactly as the sixteen greatest of the whole row do. -/
theorem cands_bits (t : EReal) (r : Fin 1024) (l : Fin 128) (e : FVec Ideal S1024x8192 .bf16) :
    (cands e).map (bit t (ix2 r l)) = stair 16 (Finset.univ.filter fun j : Fin 8192 => t ≤ e (ix2 r j)).card := by
  set f : Fin 128 → ℕ := fun l => (Finset.univ.filter fun g : Fin 64 => t ≤ e (ix2 r (colOf g l))).card with hf
  have h1 : ∀ l, (top64 maximumf minimumf (laneBlocks e)).map (bit t (ix2 r l)) = stair 16 (win f 1 l) := fun l => by
    rw [top64_lanes, win_one]
  have h2 := round_bits t r f 1 (by omega) _ h1
  have h4 := round_bits t r f 2 (by omega) _ h2
  have h8 := round_bits t r f 4 (by omega) _ h4
  have h16 := round_bits t r f 8 (by omega) _ h8
  have h32 := round_bits t r f 16 (by omega) _ h16
  have h64 := round_bits t r f 32 (by omega) _ h32
  have h128 := round_bits t r f 64 (by omega) _ h64 l
  rw [show (64 + 64 : ℕ) = 128 from rfl, win_all, hf, sum_lanes] at h128
  exact h128

/-! ## The sixteen are the first sixteen of the sorted row -/

/-- In a descending sequence the entry of rank `i` reaches the threshold exactly if more than `i` entries do. -/
theorem rank_iff {n : ℕ} (y : Fin n → EReal) (hy : Antitone y) (t : EReal) (i : Fin n) :
    i.val < (Finset.univ.filter fun k => t ≤ y k).card ↔ t ≤ y i := by
  constructor
  · intro h
    by_contra hlt
    have hsub : (Finset.univ.filter fun k => t ≤ y k) ⊆ Finset.Iio i := fun k hk => by
      rw [Finset.mem_Iio]
      by_contra hik
      exact hlt ((Finset.mem_filter.mp hk).2.trans (hy (not_lt.mp hik)))
    have := Finset.card_le_card hsub
    rw [Fin.card_Iio] at this
    omega
  · intro h
    have hsub : Finset.Iic i ⊆ (Finset.univ.filter fun k => t ≤ y k) := fun k hk =>
      Finset.mem_filter.mpr ⟨Finset.mem_univ _, h.trans (hy (Finset.mem_Iic.mp hk))⟩
    have := Finset.card_le_card hsub
    rw [Fin.card_Iic] at this
    omega

/-- Two lists that reach every threshold alike are equal. -/
theorem eq_of_bits : ∀ a b : List EReal, (∀ t, a.map (fun v => decide (t ≤ v)) = b.map fun v => decide (t ≤ v)) → a = b
  | [], [], _ => rfl
  | [], b :: bs, h => by simpa using h ⊥
  | a :: l, [], h => by simpa using h ⊥
  | a :: l, b :: l', h => by
    have hh : ∀ t, (t ≤ a ↔ t ≤ b) ∧ l.map (fun v => decide (t ≤ v)) = l'.map fun v => decide (t ≤ v) := fun t => by
      have := h t
      simp only [List.map_cons, List.cons.injEq, decide_eq_decide] at this
      exact this
    rw [le_antisymm ((hh a).1.mp le_rfl) ((hh b).1.mpr le_rfl), eq_of_bits l l' fun t => (hh t).2]

/-- The candidates of every lane are the first sixteen entries of the row sorted descending, whatever the sort is. -/
theorem cands_sorted (e : FVec Ideal S1024x8192 .bf16) (r : Fin 1024) (l : Fin 128) (σ : Fin 8192 → Fin 8192)
    (hσ : Function.Bijective σ) (hy : Antitone fun k => e (ix2 r (σ k))) :
    (cands e).map (fun v => v (ix2 r l)) = List.ofFn fun i : Fin 16 => e (ix2 r (σ ⟨i.val, by omega⟩)) := by
  refine eq_of_bits _ _ fun t => ?_
  have h := cands_bits t r l e
  have hc : (Finset.univ.filter fun j : Fin 8192 => t ≤ e (ix2 r j)).card
      = (Finset.univ.filter fun k : Fin 8192 => t ≤ e (ix2 r (σ k))).card := by
    simp only [Finset.card_filter]
    exact (Fintype.sum_bijective σ hσ _ _ fun _ => rfl).symm
  rw [hc] at h
  rw [List.map_map]
  refine h.trans ?_
  unfold stair
  refine List.ext_getElem (by simp) fun i h1 h2 => ?_
  simp only [List.getElem_map, List.getElem_range, List.getElem_ofFn, decide_eq_decide]
  exact rank_iff (fun k => e (ix2 r (σ k))) hy t ⟨i, by simp at h1; omega⟩

end Cert.KernelIdeal.Math

end
-- ==== Proof.Fold.lean ====
/- What the eight grid points leave: the normalised rows are carried from the first point on, and each point adds its
   block's part to what the points before left. -/
module

public import proofs.«01_k».proof.Proof.Block

@[expose] public section

set_option maxRecDepth 16384

noncomputable section

namespace Cert.KernelIdeal.Math

open Cert.KernelIdeal Cert.KernelIdeal.Gen Idealize.ShloMosaic Idealize.ShloMosaic.TcCoe Idealize.SL.Sem
open Cert.KernelIdeal.Value

variable {F : FTy → Type} [FloatOps F] [Named F]
variable (m : (ℓ : Loc nD τ sig) → Buf (Elt F) ℓ)

/-- The parts of the points 0 to `n` added up, from zero. -/
def accTo (xs : Vec F S8192x256 .bf16) : (n : ℕ) → n < cfg0.N → Vec F S1x1 .f32
  | 0, h => blockVal xs (rowsOf (grid0.coords ⟨0, h⟩) xs) k0_pay1367
  | n + 1, h => blockVal xs (rowsOf (grid0.coords ⟨n + 1, h⟩) xs) (accTo xs n (Nat.lt_of_succ_lt h))

/-- The one block starts at the first row and the first column, at every point. -/
theorem block_at_zero : ∀ t : Fin cfg0.N, ∀ a : Fin 2, win0_0.index t a = 0 :=
  (by decide +kernel : ∀ t : Fin grid0.N, _)

/-- The one block of the argument is the argument. -/
theorem iblk_eq (c : Dev nD) (t : Fin cfg0.N) : iblk m c 0 t = m ((c : Thread nD τ).loc main_arg0) := by
  funext z
  show V m c main_arg0 (((cfg0.win 0).blk t).view.emb z) = _
  have : ((cfg0.win 0).blk t).view.emb z = z := by
    funext a
    apply Fin.ext
    match a with
    | ⟨0, _⟩ => show win0_0.index t (0 : Fin 2) * 8192 + 1 * (z 0).val = (z 0).val; rw [block_at_zero t 0]; omega
    | ⟨1, _⟩ => show win0_0.index t (1 : Fin 2) * 256 + 1 * (z 1).val = (z 1).val; rw [block_at_zero t 1]; omega
  rw [this]

/-- After each of the first seven points: the parts so far, and the normalised rows. -/
theorem outs_eq (c : Dev nD) : ∀ (n : ℕ) (h : n < cfg0.N), n < 7 →
    outsAt0 m c n h = (accTo (k0_pay2 (m ((c : Thread nD τ).loc main_arg0))) n h, k0_pay2 (m ((c : Thread nD τ).loc main_arg0)))
  | 0, h, _ => by
    rw [outsAt0_A m c ⟨0, h⟩ rfl rfl (by show ¬0 % 8 = 7; omega), out_A, sout_A, iblk_eq]
    rfl
  | n + 1, h, h7 => by
    rw [outsAt0_succ, stAt0_B m c ⟨n + 1, h⟩ _ (by show ¬(n + 1) % 8 = 0; omega) (by show ¬(n + 1) % 8 = 0; omega) (by show ¬(n + 1) % 8 = 7; omega),
      out_B, outs_eq c n _ (by omega)]
    rfl

/-- The result: all eight parts, divided by the number of rows. -/
theorem G1_eq (c : Dev nD) :
    G1 m c = k0_pay1 (accTo (k0_pay2 (m ((c : Thread nD τ).loc main_arg0))) 7 (lt_of_lt_of_eq (by decide) N_0.symm)) := by
  rw [G1_last, ← outsAt0_sweep m c 7 (lt_of_lt_of_eq (by decide) N_0.symm), outsAt0_succ, stAt0_C m c ⟨7, lt_of_lt_of_eq (by decide) N_0.symm⟩ _ (by decide) (by decide) (by decide),
      out_C, outs_eq m c 6 _ (by omega)]
  rfl

end Cert.KernelIdeal.Math

end
-- ==== Proof.Analysis.lean ====
/- The real analysis: a row that is not zero has the same direction in both programs, and from the directions on every
   value is a real number. -/
module

public import Idealize.ShloMosaic.PureOps.Ideal
public import Mathlib.Analysis.SpecialFunctions.Pow.Real
public import Mathlib.Analysis.SpecialFunctions.Log.Basic
public import Mathlib.Data.EReal.Operations
public import Mathlib.Data.EReal.Inv

@[expose] public section

noncomputable section

namespace Cert.Analysis

open Idealize.ShloMosaic

/-- The word the similarities are divided by is one half. -/
theorem half_f32 : Ideal.ofBits .f32 0x3F000000#32 = ((1 / 2 : ℝ) : EReal) := by
  simp [Ideal.ofBits, Ideal.ieee]
  rw [← EReal.coe_mul]
  norm_num

/-- The word the losses' sum is divided by is 8192. -/
theorem rows_f32 : Ideal.ofBits .f32 0x46000000#32 = ((8192 : ℝ) : EReal) := by
  simp [Ideal.ofBits, Ideal.ieee]
  rw [← EReal.coe_mul]
  norm_num

/-- Half of the natural logarithm of 2. -/
def halfLn2 : ℝ := (1 / 2) * Real.log 2

/-- Half of the logarithm of 2 is positive. -/
theorem halfLn2_pos : 0 < halfLn2 := mul_pos (by norm_num) (Real.log_pos (by norm_num))

/-- A finite sum of reals, read as extended reals, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square of an extended real is not negative. -/
theorem sq_nonneg' (x : EReal) : 0 ≤ x * x := by
  induction x with
  | bot => simp
  | top => simp
  | coe r => rw [← EReal.coe_mul]; exact EReal.coe_nonneg.mpr (mul_self_nonneg r)

/-- A sum of squares with an infinite entry is the greatest extended real. -/
theorem sum_sq_top {n : ℕ} (x : Fin n → EReal) (k : Fin n) (hk : x k = ⊤ ∨ x k = ⊥) : ∑ q, x q * x q = ⊤ := by
  have h1 : x k * x k = ⊤ := by rcases hk with h | h <;> simp [h]
  have h2 : x k * x k ≤ ∑ q, x q * x q := Finset.single_le_sum (f := fun q => x q * x q) (fun q _ => sq_nonneg' _) (Finset.mem_univ k)
  rw [h1] at h2
  exact top_le_iff.mp h2

/-- A row that is not zero has a direction: what the reference's quotient by the norm gives, and, up to the root of the
    named constant, what the kernel's product with a reciprocal root gives. A row with an infinite entry has direction 0. -/
theorem row_direction {n : ℕ} (x : Fin n → EReal) (hx : ∃ k, x k ≠ 0) :
    ∃ u : Fin n → ℝ, (∀ k, Ideal.div (x k) (Ideal.sqrt (∑ q, x q * x q)) = ((u k : ℝ) : EReal))
      ∧ ∀ k, x k * Ideal.rsqrt ((∑ q, x q * x q) * ((halfLn2 : ℝ) : EReal)) = ((u k / √halfLn2 : ℝ) : EReal) := by
  have hc := halfLn2_pos
  by_cases hinf : ∃ k, x k = ⊤ ∨ x k = ⊥
  · obtain ⟨k, hk⟩ := hinf
    rw [sum_sq_top x k hk, EReal.top_mul_coe_of_pos hc]
    refine ⟨fun _ => 0, fun q => ?_, fun q => ?_⟩
    · show Ideal.div (x q) ⊤ = _
      simp [Ideal.div]
    · show x q * 0 = _
      simp
  · have hreal : ∀ k, ∃ r : ℝ, x k = (r : EReal) := fun k => by
      rcases h : x k with _ | _ | r
      · exact absurd ⟨k, Or.inr h⟩ hinf
      · exact absurd ⟨k, Or.inl h⟩ hinf
      · exact ⟨r, rfl⟩
    choose y hy using hreal
    obtain ⟨k, hk⟩ := hx
    have hyk : y k ≠ 0 := fun h => hk (by rw [hy, h, EReal.coe_zero])
    have hs : 0 < ∑ q, y q * y q :=
      Finset.sum_pos' (fun q _ => mul_self_nonneg _) ⟨k, Finset.mem_univ _, mul_self_pos.mpr hyk⟩
    have e : ∑ q, x q * x q = ((∑ q, y q * y q : ℝ) : EReal) := by
      rw [coe_sum]; exact Finset.sum_congr rfl fun q _ => by rw [hy, EReal.coe_mul]
    rw [e]
    set S : ℝ := ∑ q, y q * y q
    have hr : √S ≠ 0 := (Real.sqrt_pos.mpr hs).ne'
    refine ⟨fun q => y q / √S, fun q => ?_, fun q => ?_⟩
    · have h1 : Ideal.sqrt (S : EReal) = ((√S : ℝ) : EReal) := by
        show (if S < 0 then ⊥ else ((√S : ℝ) : EReal)) = _
        rw [if_neg (not_lt.mpr hs.le)]
      rw [h1, Ideal.div_coe hr, hy, ← EReal.coe_mul]
      congr 1
      ring
    · have hp : 0 < S * halfLn2 := mul_pos hs hc
      have h1 : Ideal.rsqrt ((S * halfLn2 : ℝ) : EReal) = (((√(S * halfLn2))⁻¹ : ℝ) : EReal) := by
        show (if S * halfLn2 < 0 then ⊥ else if S * halfLn2 = 0 then ⊤ else _) = _
        rw [if_neg (not_lt.mpr hp.le), if_neg hp.ne']
      rw [← EReal.coe_mul, h1, hy, ← EReal.coe_mul, Real.sqrt_mul hs.le]
      congr 1
      rw [mul_inv]
      ring

/-! ## From the directions on -/

section
variable (u : Fin 8192 → Fin 256 → ℝ)

/-- The similarity of two rows: the exponential of twice the inner product of their directions. -/
def sim (i j : Fin 8192) : ℝ := Real.exp (2 * ∑ k, u i k * u j k)

/-- A similarity is positive. -/
theorem sim_pos (i j : Fin 8192) : 0 < sim u i j := Real.exp_pos _

/-- The kernel's similarity: the power of two of the inner product of its scaled rows. -/
theorem sim_kernel (i j : Fin 8192) :
    Ideal.exp2 (∑ k, ((u i k / √halfLn2 : ℝ) : EReal) * ((u j k / √halfLn2 : ℝ) : EReal)) = ((sim u i j : ℝ) : EReal) := by
  have hc := halfLn2_pos
  have e : ∑ k, ((u i k / √halfLn2 : ℝ) : EReal) * ((u j k / √halfLn2 : ℝ) : EReal)
      = (((∑ k, u i k * u j k) / halfLn2 : ℝ) : EReal) := by
    rw [Finset.sum_div, coe_sum]
    refine Finset.sum_congr rfl fun k _ => ?_
    rw [← EReal.coe_mul, div_mul_div_comm, Real.mul_self_sqrt hc.le]
  rw [e]
  show ((Real.rpow 2 ((∑ k, u i k * u j k) / halfLn2) : ℝ) : EReal) = _
  congr 1
  show (2 : ℝ) ^ ((∑ k, u i k * u j k) / halfLn2) = _
  rw [Real.rpow_def_of_pos (by norm_num), sim]
  congr 1
  have hl : Real.log 2 ≠ 0 := (Real.log_pos (by norm_num)).ne'
  unfold halfLn2
  field_simp

/-- The reference's similarity: the exponential of the inner product divided by one half. -/
theorem sim_reference (i j : Fin 8192) :
    Ideal.exp (Ideal.div (∑ k, ((u i k : ℝ) : EReal) * ((u j k : ℝ) : EReal)) (((1 / 2 : ℝ)) : EReal)) = ((sim u i j : ℝ) : EReal) := by
  have e : ∑ k, ((u i k : ℝ) : EReal) * ((u j k : ℝ) : EReal) = ((∑ k, u i k * u j k : ℝ) : EReal) := by
    rw [coe_sum]
    exact Finset.sum_congr rfl fun k _ => (EReal.coe_mul _ _).symm
  rw [e, Ideal.div_coe (by norm_num), ← EReal.coe_mul]
  show ((Real.exp _ : ℝ) : EReal) = _
  rw [sim]
  congr 2
  ring

/-- The sum of a row's similarities with the other rows. -/
def total (i : Fin 8192) : ℝ := (∑ j, sim u i j) - sim u i i

/-- A row's sum of similarities off the diagonal is positive. -/
theorem total_pos (i : Fin 8192) : 0 < total u i := by
  obtain ⟨j, hj⟩ : ∃ j : Fin 8192, j ≠ i := exists_ne i
  have h : sim u i i + sim u i j ≤ ∑ q, sim u i q := by
    rw [← Finset.sum_pair (f := sim u i) hj.symm]
    exact Finset.sum_le_sum_of_subset_of_nonneg (Finset.subset_univ _) fun q _ _ => (sim_pos u i q).le
  have := sim_pos u i j
  unfold total
  linarith

end

/-- The logarithm of a positive real. -/
theorem log_coe {a : ℝ} (ha : 0 < a) : Ideal.log ((a : ℝ) : EReal) = ((Real.log a : ℝ) : EReal) := by
  show (if a ≤ 0 then ⊥ else ((Real.log a : ℝ) : EReal)) = _
  rw [if_neg (not_le.mpr ha)]

/-- The reference's loss of a row, minus the logarithm of a quotient, is the kernel's difference of two logarithms. -/
theorem neg_log_div {a b : ℝ} (ha : 0 < a) (hb : 0 < b) :
    -Ideal.log (Ideal.div ((b : ℝ) : EReal) ((a : ℝ) : EReal)) = ((Real.log a - Real.log b : ℝ) : EReal) := by
  rw [Ideal.div_coe ha.ne', ← EReal.coe_mul, log_coe (by positivity), ← EReal.coe_neg]
  congr 1
  rw [mul_one_div, Real.log_div hb.ne' ha.ne']
  ring

end Cert.Analysis

end
-- ==== Proof.Points.lean ====
/- The kernel's operations at the extended reals, element by element. -/
module

public import proofs.«01_k».proof.Proof.Block
public import proofs.«01_k».proof.Proof.Analysis
public import Idealize.ShloMosaic.PureOps.Ideal.Laws
public import Idealize.ShloMosaic.Lib.Pipeline.ValueKit.Stack
public import Idealize.ShloMosaic.Lib.Pointwise

@[expose] public section

set_option maxRecDepth 16384

noncomputable section

namespace Cert.KernelIdeal.Math

open Cert.KernelIdeal Cert.KernelIdeal.Gen Idealize.ShloMosaic Idealize.ShloMosaic.TcCoe

/-- A normalised entry: the entry times the reciprocal root of its row's scaled sum of squares. -/
theorem pay2_apply (X : Vec Ideal S8192x256 .f32) (i : Fin 8192) (k : Fin 256) :
    k0_pay2 (F := Ideal) X (ix2 i k)
      = X (ix2 i k) * Ideal.rsqrt ((∑ q : Fin 256, X (ix2 i q) * X (ix2 i q)) * (((1 / 2) * Real.log 2 : ℝ) : EReal)) := by
  unfold k0_pay2
  pointwise
  rfl

/-- A similarity: the power of two of the inner product of one of the block's rows with one of all the rows. -/
theorem pay3_apply (v3 : Vec Ideal S8192x256 .bf16) (v6 : Vec Ideal S1024x256 .bf16) (r : Fin 1024) (j : Fin 8192) :
    k0_pay3 (F := Ideal) v3 v6 (ix2 r j) = Ideal.exp2 (∑ k : Fin 256, v6 (ix2 r k) * v3 (ix2 j k)) := by
  unfold k0_pay3
  pointwise
  rfl

/-- A row's sum of similarities less the power of two of its own squared length. -/
theorem pay4_apply (v3 : Vec Ideal S8192x256 .bf16) (v6 : Vec Ideal S1024x256 .bf16) (r : Fin 1024) (q : Fin 1) :
    k0_pay4 (F := Ideal) v3 v6 (ix2 r q)
      = (∑ j : Fin 8192, k0_pay3 v3 v6 (ix2 r j)) - Ideal.exp2 (∑ k : Fin 256, v6 (ix2 r k) * v6 (ix2 r k)) := by
  unfold k0_pay4
  pointwise
  rfl

/-- The narrowed similarities are the similarities. -/
theorem pay5_apply (v3 : Vec Ideal S8192x256 .bf16) (v6 : Vec Ideal S1024x256 .bf16) (r : Fin 1024) (j : Fin 8192) :
    k0_pay5 (F := Ideal) v3 v6 (ix2 r j) = k0_pay3 (F := Ideal) v3 v6 (ix2 r j) := rfl

/-- The last point divides by 8192. -/
theorem pay1_apply (v : Vec Ideal S1x1 .f32) (j : S1x1.Idx) : k0_pay1 (F := Ideal) v j = Ideal.div (v j) ((8192 : ℝ) : EReal) := by
  unfold k0_pay1
  pointwise
  rw [Cert.Analysis.rows_f32]

/-- The accumulation starts from zero. -/
theorem pay1367_apply (j : S1x1.Idx) : k0_pay1367 (F := Ideal) j = 0 := by
  unfold k0_pay1367
  pointwise

/-- The greatest of 128 equal entries, from the least extended real, is the entry. -/
theorem fold_const (b : EReal) : Finset.fold max (Ideal.ofBits FTy.f32 0xFF800000#32) (fun _ : Fin 128 => b) Finset.univ = b := by
  have h : Ideal.ofBits FTy.f32 0xFF800000#32 = ⊥ := by simp [Ideal.ofBits, Ideal.ieee]
  rw [h]
  refine le_antisymm ?_ ?_
  · rw [Finset.fold_max_le]
    exact ⟨bot_le, fun _ _ => le_rfl⟩
  · rw [Finset.le_fold_max]
    exact Or.inr ⟨0, Finset.mem_univ _, le_rfl⟩

/-- Where every lane of a row holds one sum, a block adds the differences of the rows' logarithms. -/
theorem finish_apply (eall : FVec Ideal S1024x1 .f32) (es : FVec Ideal S1024x128 .f32) (acc : Vec Ideal S1x1 .f32) (j : S1x1.Idx)
    (b : Fin 1024 → EReal) (hb : ∀ r l, es (ix2 r l) = b r) :
    finish (F := Ideal) eall es acc j = acc j + ∑ r : Fin 1024, (Ideal.log (eall (ix2 r 0)) - Ideal.log (b r)) := by
  unfold finish
  pointwise
  simp only [hb, fold_const]

/-- Row `r` of block `t` is row `1024 * t + r` of all the rows. -/
theorem rowsOf_apply (t : Fin cfg0.N) (xs : Vec Ideal S8192x256 .bf16) (r : Fin 1024) (k : Fin 256) :
    rowsOf (grid0.coords t) xs (ix2 r k) = xs (ix2 ⟨1024 * t.val + r.val, by have := lt_of_lt_of_eq t.isLt N_0; omega⟩ k) := by
  have ht : t.val < 8 := lt_of_lt_of_eq t.isLt N_0
  have e0 : (grid0.coords t 0).val = t.val / 1 % 8 := Pipeline.Grid.coords_val t 0 (by decide) rfl
  unfold rowsOf View.ld
  congr 1
  funext a
  apply Fin.ext
  rw [Rect.idx_unit_val]
  match a with
  | ⟨0, _⟩ =>
    show (k0_off1 (grid0.coords t)) 0 + r.val = 1024 * t.val + r.val
    unfold k0_off1
    simp [Scalar.indexCast, Scalar.muli, IntOp.muli, BitVec.toNat_mul, BitVec.toNat_ofNat, e0]
    omega
  | ⟨1, _⟩ => exact Nat.zero_add _

end Cert.KernelIdeal.Math

end
-- ==== Proof.KernelValue.lean ====
/- The kernel's result at the extended reals, over rows that are a scaled family of real vectors: the mean of the rows'
   losses. -/
module

public import proofs.«01_k».proof.Proof.Select
public import proofs.«01_k».proof.Proof.Fold
public import proofs.«01_k».proof.Proof.Points
public import proofs.«01_k».proof.Proof.Analysis

@[expose] public section

set_option maxRecDepth 16384

noncomputable section

namespace Cert.KernelIdeal.Math

open Cert.KernelIdeal Cert.KernelIdeal.Gen Idealize.ShloMosaic Idealize.ShloMosaic.TcCoe
open Cert.Analysis

/-- The sum of the entries 1 to 10 of a list of numbers, first to last. -/
def sumList : List EReal → EReal
  | _ :: a :: l => (l.take 9).foldl (· + ·) a
  | _ => 0

/-- Adding up blocks of lanes lane by lane. -/
theorem foldl_apply (l : List (Lanes Ideal)) (s : FVec Ideal S1024x128 .f32) (j : S1024x128.Idx) :
    (l.foldl (fun s x => addf s (extf .f32 x bitsLt_bf16_f32)) s) j = (l.map fun v => v j).foldl (· + ·) (s j) := by
  induction l generalizing s with
  | nil => rfl
  | cons x l ih => exact ih _

/-- A lane of the sum of ten candidates is the sum of the candidates' lanes. -/
theorem esum_apply (l : List (Lanes Ideal)) (h : 2 ≤ l.length) (j : S1024x128.Idx) :
    esum (F := Ideal) l j = sumList (l.map fun v => v j) := by
  match l, h with
  | _ :: a :: l, _ =>
    refine (foldl_apply (l.take 9) _ j).trans ?_
    rw [List.map_take]
    rfl

/-- The sum of the entries 1 to 10 of sixteen real numbers. -/
theorem sumList_ofFn (f : Fin 16 → ℝ) :
    sumList (List.ofFn fun i => ((f i : ℝ) : EReal)) = ((∑ r : Fin 10, f ⟨r.val + 1, by omega⟩ : ℝ) : EReal) := by
  simp [List.ofFn_succ, sumList, Fin.sum_univ_succ, add_assoc]

variable (u : Fin 8192 → Fin 256 → ℝ) (σ : Fin 8192 → Fin 8192 → Fin 8192)

/-- The sum of a row's similarities of ranks 1 to 10. -/
def near (i : Fin 8192) : ℝ := ∑ r : Fin 10, sim u i (σ i ⟨r.val + 1, by omega⟩)

/-- A row's loss. -/
def loss (i : Fin 8192) : ℝ := Real.log (total u i) - Real.log (near u σ i)

/-- A row's sum of its similarities of ranks 1 to 10 is positive. -/
theorem near_pos (i : Fin 8192) : 0 < near u σ i :=
  Finset.sum_pos (fun _ _ => sim_pos u _ _) Finset.univ_nonempty

/-- Row `r` of block `t`. -/
def rowAt (t : Fin cfg0.N) (r : Fin 1024) : Fin 8192 :=
  ⟨1024 * t.val + r.val, by have := lt_of_lt_of_eq t.isLt N_0; omega⟩

variable (Z : Vec Ideal S8192x256 .bf16) (hZ : ∀ i k, Z (ix2 i k) = ((u i k / √halfLn2 : ℝ) : EReal))
include hZ

/-- Row `r` of a block's own rows. -/
theorem own_row (t : Fin cfg0.N) (r : Fin 1024) (k : Fin 256) :
    rowsOf (grid0.coords t) Z (ix2 r k) = ((u (rowAt t r) k / √halfLn2 : ℝ) : EReal) :=
  (rowsOf_apply t Z r k).trans (hZ (rowAt t r) k)

/-- A block's similarities. -/
theorem block_sim (t : Fin cfg0.N) (r : Fin 1024) (j : Fin 8192) :
    k0_pay3 (F := Ideal) Z (rowsOf (grid0.coords t) Z) (ix2 r j) = ((sim u (rowAt t r) j : ℝ) : EReal) := by
  rw [pay3_apply, ← sim_kernel]
  exact congrArg Ideal.exp2 (Finset.sum_congr rfl fun k _ => congrArg₂ (· * ·) (own_row u Z hZ t r k) (hZ j k))

/-- A block's sums of similarities off the diagonal. -/
theorem block_total (t : Fin cfg0.N) (r : Fin 1024) :
    k0_pay4 (F := Ideal) Z (rowsOf (grid0.coords t) Z) (ix2 r 0) = ((total u (rowAt t r) : ℝ) : EReal) := by
  have h : Ideal.exp2 (∑ k : Fin 256, rowsOf (grid0.coords t) Z (ix2 r k) * rowsOf (grid0.coords t) Z (ix2 r k))
      = ((sim u (rowAt t r) (rowAt t r) : ℝ) : EReal) := by
    rw [← sim_kernel]
    exact congrArg Ideal.exp2 (Finset.sum_congr rfl fun k _ =>
      congrArg₂ (· * ·) (own_row u Z hZ t r k) (own_row u Z hZ t r k))
  rw [pay4_apply, h]
  simp only [block_sim u Z hZ]
  rw [← coe_sum, ← EReal.coe_sub]
  rfl

variable (hσ : ∀ i, Function.Bijective (σ i)) (ha : ∀ i, Antitone fun k => sim u i (σ i k))
include hσ ha

/-- Every lane of a block's row ends with the sum of the row's ten nearest similarities. -/
theorem block_near (t : Fin cfg0.N) (r : Fin 1024) (l : Fin 128) :
    esum (F := Ideal) (cands (k0_pay5 Z (rowsOf (grid0.coords t) Z))) (ix2 r l) = ((near u σ (rowAt t r) : ℝ) : EReal) := by
  have he (j : Fin 8192) : k0_pay5 (F := Ideal) Z (rowsOf (grid0.coords t) Z) (ix2 r j) = ((sim u (rowAt t r) j : ℝ) : EReal) :=
    (pay5_apply _ _ _ _).trans (block_sim u Z hZ t r j)
  have hc := cands_sorted (k0_pay5 Z (rowsOf (grid0.coords t) Z)) r l (σ (rowAt t r)) (hσ _) (fun p q hpq => by
    simp only [he]
    exact EReal.coe_le_coe_iff.mpr (ha _ hpq))
  have hl := congrArg List.length hc
  rw [List.length_map, List.length_ofFn] at hl
  rw [esum_apply _ (by omega), hc]
  simp only [he]
  exact sumList_ofFn fun i => sim u (rowAt t r) (σ (rowAt t r) ⟨i.val, by omega⟩)

/-- What a block adds: the sum of its rows' losses. -/
theorem blockVal_apply (hu : ∀ i, 0 < total u i) (t : Fin cfg0.N) (acc : Vec Ideal S1x1 .f32) (a : ℝ) (j : S1x1.Idx)
    (hacc : acc j = (a : EReal)) :
    blockVal (F := Ideal) Z (rowsOf (grid0.coords t) Z) acc j = ((a + ∑ r : Fin 1024, loss u σ (rowAt t r) : ℝ) : EReal) := by
  refine (finish_apply _ _ acc j _ fun r l => block_near u σ Z hZ hσ ha t r l).trans ?_
  simp only [block_total u Z hZ, log_coe (hu _), log_coe (near_pos u σ _), ← EReal.coe_sub]
  rw [← coe_sum, hacc, ← EReal.coe_add]
  rfl

/-- The parts of the points 0 to `n` add up to the losses of the first `1024 * (n + 1)` rows. -/
theorem accTo_apply (hu : ∀ i, 0 < total u i) (j : S1x1.Idx) : ∀ (n : ℕ) (h : n < cfg0.N),
    accTo (F := Ideal) Z n h j
      = ((∑ t : Fin (n + 1), ∑ r : Fin 1024, loss u σ (rowAt ⟨t.val, lt_of_le_of_lt (Nat.le_of_lt_succ t.isLt) h⟩ r) : ℝ) : EReal)
  | 0, h => by
    rw [accTo, blockVal_apply u σ Z hZ hσ ha hu _ _ 0 j (pay1367_apply j), zero_add, Fin.sum_univ_one]
    rfl
  | n + 1, h => by
    rw [accTo, blockVal_apply u σ Z hZ hσ ha hu _ _ _ j (accTo_apply hu j n _)]
    exact congrArg Real.toEReal (Fin.sum_univ_castSucc fun t : Fin (n + 1 + 1) =>
      ∑ r : Fin 1024, loss u σ (rowAt ⟨t.val, lt_of_le_of_lt (Nat.le_of_lt_succ t.isLt) h⟩ r)).symm

/-- The kernel's result is the mean of all the rows' losses. -/
theorem result_apply (hu : ∀ i, 0 < total u i) (j : S1x1.Idx) (h : 7 < cfg0.N) :
    k0_pay1 (F := Ideal) (accTo Z 7 h) j = Ideal.div ((∑ i : Fin 8192, loss u σ i : ℝ) : EReal) ((8192 : ℝ) : EReal) := by
  rw [pay1_apply, accTo_apply u σ Z hZ hσ ha hu]
  refine congrArg (fun s : ℝ => Ideal.div (s : EReal) _) ?_
  rw [← Fintype.sum_prod_type' (f := fun (t : Fin 8) (r : Fin 1024) => loss u σ (rowAt ⟨t.val, lt_of_le_of_lt (Nat.le_of_lt_succ t.isLt) h⟩ r))]
  refine Fintype.sum_equiv finProdFinEquiv _ _ fun p => congrArg (loss u σ) (Fin.ext ?_)
  show 1024 * p.1.val + p.2.val = p.2.val + 1024 * p.1.val
  exact Nat.add_comm _ _

end Cert.KernelIdeal.Math

end
-- ==== Proof.Ranked.lean ====
/- The reference's operations at the extended reals, element by element: the similarities, the ranked places of a row, and
   the entries taken at them. -/
module

public import proofs.«01_k».proof.Proof.Gen.ReferenceIdeal.Run
public import proofs.«01_k».proof.Proof.Analysis
public import Idealize.ShloMosaic.PureOps.Ideal.Laws
public import Idealize.ShloMosaic.Lib.IdealHost
public import Idealize.ShloMosaic.Lib.SortFacts
public import Idealize.ShloMosaic.Lib.Pointwise
public import Idealize.ShloMosaic.Lib.Tactic

@[expose] public section

set_option maxRecDepth 16384

noncomputable section

namespace Cert.ReferenceIdeal.Math

open Cert.ReferenceIdeal Cert.ReferenceIdeal.Gen Idealize.ShloMosaic Idealize.ShloMosaic.TcCoe

/-- The rows divided by their norms. -/
def unitRows (X : FVec Ideal S8192x256 .f32) : FVec Ideal S8192x256 .f32 :=
  Host.divf X (broadcastInDim S8192x256 ![0, 1] bcast_S8192x1_S8192x256_0_1 (broadcastInDim S8192x1 ![0] bcast_S8192_S8192x1_0
    (Host.sqrt (Host.reduceAdd (mulf X X) (constant S_ .f32 0x00000000#32) reducesTo_S8192x256_S8192_d1 h_S_))))

/-- The similarities of the rows `Z`. -/
def simOf (Z : FVec Ideal S8192x256 .f32) : FVec Ideal S8192x8192 .f32 :=
  Host.exp (Host.divf
    (Host.dotGeneral dot_S8192x256_S256x8192_S8192x8192_1_0_0_1_n_n none Z (transpose S256x8192 [1, 0] Z transposes_S8192x256_S256x8192_1_0))
    (broadcastInDim S8192x8192 ![] bcast_S_S8192x8192 (constant S_ .f32 0x3F000000#32)))

/-- The places of the entries of ranks 1 to 10 of each row, the entries ranked from the greatest down. -/
def places (s : FVec Ideal S8192x8192 .f32) : IVec S8192x10 32 :=
  extractStridedSlice S8192x10 ![0, 1] ((Host.topK S8192x11 1 (FloatOps.cmpfTotal .gt) s sliceFits_S8192x8192_S8192x11).2) slices_S8192x11_S8192x10_0_1

/-- The places as start indices, a negative one counted from the end. -/
def starts (ix : IVec S8192x10 32) : IVec S8192x10x1 32 :=
  shapeCast _ (select (cmpi .slt ix (broadcastInDim S8192x10 ![] bcast_S_S8192x10 (constantI S_ 32 0#32)))
    (addi ix (broadcastInDim S8192x10 ![] bcast_S_S8192x10 (constantI S_ 32 8192#32))) ix) shapeCasts_S8192x10_S8192x10x1

/-- Whether a start index lies in the row. -/
def inRow (st : IVec S8192x10x1 32) : IVec S8192x10 1 :=
  Host.reduce IntOp.andi
    (andi (cmpi .sge st (broadcastInDim S8192x10x1 ![] bcast_S_S8192x10x1 (constantI S_ 32 0#32)))
      (cmpi .sle st (broadcastInDim S8192x10x1 ![0, 1, 2] bcast_S1x1x1_S8192x10x1_0_1_2
        (broadcastInDim S1x1x1 ![2] bcast_S1_S1x1x1_2 (constantI S1 32 8191#32)))))
    (constantI S_ 1 1#1) reducesTo_S8192x10x1_S8192x10_d2 h_S_

/-- The entries taken at the start indices. -/
def taken (s : FVec Ideal S8192x8192 .f32) (st : IVec S8192x10x1 32) : FVec Ideal S8192x10 .f32 :=
  select (inRow st) (Host.gather gather_S8192x8192_S8192x10x1_S8192x10_n_1_0_0_1_2_11 s st)
    (broadcastInDim S8192x10 ![] bcast_S_S8192x10 (constant S_ .f32 0x7FC00000#32))

/-- A row's sum of similarities without the diagonal one. -/
def offDiagonal (s : FVec Ideal S8192x8192 .f32) : FVec Ideal S8192 .f32 :=
  subf (Host.reduceAdd s (constant S_ .f32 0x00000000#32) reducesTo_S8192x8192_S8192_d1 h_S_)
    (Host.reduceAdd
      (select (cmpi .eq (iotaInDim S8192x8192 32 0) (iotaInDim S8192x8192 32 1)) s
        (broadcastInDim S8192x8192 ![] bcast_S_S8192x8192 (id (constant S_ .f32 0x00000000#32))))
      (constant S_ .f32 0x00000000#32) reducesTo_S8192x8192_S8192_d1 h_S_)

/-- The mean of the rows' losses. -/
def meanLoss (near : FVec Ideal S8192x10 .f32) (eall : FVec Ideal S8192 .f32) : FVec Ideal S1x1 .f32 :=
  shapeCast _ (Host.divf
    (Host.reduceAdd
      (Host.negf (Host.log (Host.divf (Host.reduceAdd near (constant S_ .f32 0x00000000#32) reducesTo_S8192x10_S8192_d1 h_S_) eall)))
      (constant S_ .f32 0x00000000#32) reducesTo_S8192_S_d0 h_S_)
    (constant S_ .f32 0x46000000#32)) shapeCasts_S_S1x1

/-- The reference's result is the composition of these. -/
theorem result_eq (m : (ℓ : Loc nD τ sig) → Buf (Elt Ideal) ℓ) (c : Dev nD) :
    Cert.ReferenceIdeal.Value.res_main_v24 (F := Ideal) m c
      = let s := simOf (unitRows (m ((c.tc : Thread nD τ).loc main_arg0)))
        meanLoss (taken s (starts (places s))) (offDiagonal s) := rfl

/-- A row divided by the square root of its sum of squares. -/
theorem unitRows_apply (X : FVec Ideal S8192x256 .f32) (i : Fin 8192) (k : Fin 256) :
    unitRows X (ix2 i k) = Ideal.div (X (ix2 i k)) (Ideal.sqrt (∑ q : Fin 256, X (ix2 i q) * X (ix2 i q))) := by
  unfold unitRows
  pointwise

/-- The similarity of two rows: the exponential of their inner product over one half. -/
theorem simOf_apply (Z : FVec Ideal S8192x256 .f32) (i j : Fin 8192) :
    simOf Z (ix2 i j) = Ideal.exp (Ideal.div (∑ k : Fin 256, Z (ix2 i k) * Z (ix2 j k)) ((1 / 2 : ℝ) : EReal)) := by
  unfold simOf
  pointwise
  exact congrArg (fun h => Ideal.exp (Ideal.div _ h)) Cert.Analysis.half_f32

/-- A comparison's word is 1 exactly when the comparison holds. -/
theorem ofBool_one (b : Bool) : BitVec.ofBool b = 1#1 ↔ b = true := by cases b <;> decide

/-- A row number's 32-bit word, read signed, is the number. -/
theorem word_toInt (n : Fin 8192) : (BitVec.ofNat 32 n.val).toInt = n.val := by
  have := n.isLt
  rw [BitVec.toInt_eq_toNat_cond, BitVec.toNat_ofNat, Nat.mod_eq_of_lt (by omega), if_pos (by omega)]

/-- Two row numbers' 32-bit words are equal only when the numbers are. -/
theorem word_eq (i j : Fin 8192) : IntOp.cmpi .eq (BitVec.ofNat 32 i.val) (BitVec.ofNat 32 j.val) = 1#1 ↔ i = j := by
  refine (ofBool_one _).trans (beq_iff_eq.trans ⟨fun h => Fin.ext ?_, fun h => h ▸ rfl⟩)
  have := congrArg BitVec.toInt h
  rwa [word_toInt, word_toInt, Nat.cast_inj] at this

/-- A row's sum of similarities less the one on the diagonal. -/
theorem offDiagonal_apply (s : FVec Ideal S8192x8192 .f32) (i : Fin 8192) :
    offDiagonal s (ix1 i) = (∑ j : Fin 8192, s (ix2 i j)) - s (ix2 i i) := by
  unfold offDiagonal
  pointwise
  refine congrArg (fun d => (∑ j : Fin 8192, s (ix2 i j)) - d) ?_
  refine (Finset.sum_congr rfl (g := fun j => if i = j then s (ix2 i j) else 0) fun j _ => ?_).trans (by simp)
  have hz : id (constant (F := Ideal) S_ .f32 0#32) ix0 = 0 := by
    show Ideal.ofBits .f32 0x00000000#32 = 0
    simp [Ideal.ofBits, Ideal.ieee]
  rw [hz]
  exact if_congr (word_eq i j) rfl rfl

/-- The mean over the rows of minus the logarithm of the ratio of a row's two sums. -/
theorem meanLoss_apply (near : FVec Ideal S8192x10 .f32) (eall : FVec Ideal S8192 .f32) (j : S1x1.Idx) :
    meanLoss near eall j
      = Ideal.div (∑ i : Fin 8192, -Ideal.log (Ideal.div (∑ r : Fin 10, near (ix2 i r)) (eall (ix1 i)))) ((8192 : ℝ) : EReal) := by
  unfold meanLoss
  pointwise
  exact congrArg (Ideal.div _) Cert.Analysis.rows_f32

/-- What the start indices place at `(i, r)` takes from row `i`: the entry at the start index, kept within the row. -/
theorem gather_apply (s : FVec Ideal S8192x8192 .f32) (st : IVec S8192x10x1 32) (i : Fin 8192) (r : Fin 10) :
    Host.gather gather_S8192x8192_S8192x10x1_S8192x10_n_1_0_0_1_2_11 s st (ix2 i r)
      = s (ix2 i ⟨min (st (ix3 i r 0)).toInt.toNat 8191, by omega⟩) := by
  let d := gather_S8192x8192_S8192x10x1_S8192x10_n_1_0_0_1_2_11
  have hoff (a : Fin 2) : d.offCoord (ix2 i r) a = 0 := d.offCoord_eq_zero _ a fun h => by
    have := (d.mem_sKept a).mp h
    revert this
    fin_cases a <;> simp [d, gather_S8192x8192_S8192x10x1_S8192x10_n_1_0_0_1_2_11]
  have hrow : d.start (ix2 i r) st 0 + d.batchCoord (ix2 i r) 0 = i.val := by
    rw [d.start_batching _ _ _ (List.mem_singleton.mpr rfl), Nat.zero_add]
    exact dif_pos (List.mem_singleton.mpr rfl)
  have hcol : d.start (ix2 i r) st 1 + d.batchCoord (ix2 i r) 1 = min (st (ix3 i r 0)).toInt.toNat 8191 := by
    rw [d.batchCoord_eq_zero _ 1 (by simp [d, gather_S8192x8192_S8192x10x1_S8192x10_n_1_0_0_1_2_11]), Nat.add_zero]
    refine (dif_pos (List.mem_singleton.mpr rfl)).trans (congrArg (fun p => min (st p).toInt.toNat 8191) (funext fun b => Fin.ext ?_))
    match b with
    | ⟨0, _⟩ => rfl
    | ⟨1, _⟩ => rfl
    | ⟨2, _⟩ => rfl
  refine congrArg s (funext fun a => Fin.ext ?_)
  show d.start _ st a + d.batchCoord _ a + d.offCoord _ a = _
  rw [hoff a, Nat.add_zero]
  match a with
  | ⟨0, _⟩ => exact hrow
  | ⟨1, _⟩ => exact hcol

/-- A start index from 0 to 8191 takes the row's entry there. -/
theorem gather_word (s : FVec Ideal S8192x8192 .f32) (st : IVec S8192x10x1 32) (i : Fin 8192) (r : Fin 10) (n : Fin 8192)
    (hst : st (ix3 i r 0) = BitVec.ofNat 32 n.val) :
    Host.gather gather_S8192x8192_S8192x10x1_S8192x10_n_1_0_0_1_2_11 s st (ix2 i r) = s (ix2 i n) := by
  have hn : (st (ix3 i r 0)).toInt.toNat = n.val := by
    rw [hst, word_toInt, Int.toNat_natCast]
  refine (gather_apply s st i r).trans (congrArg (fun p => s (ix2 i p)) (Fin.ext ?_))
  exact (congrArg (fun w => min w 8191) hn).trans (Nat.min_eq_left (Nat.le_of_lt_succ n.isLt))

/-- A start index from 0 to 8191 lies in the row. -/
theorem inRow_apply (st : IVec S8192x10x1 32) (i : Fin 8192) (r : Fin 10) (n : Fin 8192)
    (hst : st (ix3 i r 0) = BitVec.ofNat 32 n.val) : inRow st (ix2 i r) = 1#1 := by
  unfold inRow
  pointwise
  simp only [Finset.univ_unique, Finset.fold_singleton]
  have hd : (default : Fin 1) = 0 := rfl
  rw [hd, hst]
  have h1 : IntOp.cmpi .sge (BitVec.ofNat 32 n.val) 0#32 = 1#1 :=
    (ofBool_one _).mpr (decide_eq_true (by rw [word_toInt]; exact Int.natCast_nonneg _))
  have h2 : IntOp.cmpi .sle (BitVec.ofNat 32 n.val) 8191#32 = 1#1 :=
    (ofBool_one _).mpr (decide_eq_true (by
      rw [word_toInt, show (8191#32 : BitVec 32).toInt = 8191 from by decide]
      have := n.isLt
      omega))
  rw [h1, h2]
  rfl

/-- A place from 0 to 8191 is its own start index. -/
theorem starts_apply (ix : IVec S8192x10 32) (i : Fin 8192) (r : Fin 10) (n : Fin 8192)
    (hix : ix (ix2 i r) = BitVec.ofNat 32 n.val) : starts ix (ix3 i r 0) = BitVec.ofNat 32 n.val := by
  unfold starts
  pointwise
  rw [hix]
  refine if_neg fun h => ?_
  have := of_decide_eq_true ((ofBool_one _).mp h)
  rw [word_toInt] at this
  exact absurd this (by simp)

/-- The ranking's comparison is the order of the extended reals. -/
theorem before_iff (x y : EReal) : (FloatOps.cmpfTotal (F := Ideal) (φ := .f32) .gt x y == 1#1) = decide (y < x) := by
  show (BitVec.ofBool (decide (y < x)) == 1#1) = decide (y < x)
  cases decide (y < x) <;> rfl

/-- The place of the number of each rank in a list, the numbers ranked from the greatest down. -/
def rankOf {n : Nat} (x : Fin n → EReal) : Fin n → Fin n :=
  sortedFrom fun k k' => FloatOps.cmpfTotal (F := Ideal) (φ := .f32) .gt (x k) (x k') == 1#1

/-- Every place has exactly one rank. -/
theorem rankOf_bijective {n : Nat} (x : Fin n → EReal) : Function.Bijective (rankOf x) :=
  ⟨sortedFrom_injective _, sortedFrom_surjective _⟩

/-- The numbers fall along the ranks. -/
theorem rankOf_antitone {n : Nat} (x : Fin n → EReal) : Antitone fun k => x (rankOf x k) := by
  refine fun p q hpq => ?_
  rcases hpq.eq_or_lt with rfl | hlt
  · exact le_rfl
  have h := sortedFrom_noInversion
    (fun k k' => FloatOps.cmpfTotal (F := Ideal) (φ := .f32) .gt (x k) (x k') == 1#1) _
    (fun a b hab => by
      simp only [before_iff, decide_eq_true_eq, decide_eq_false_iff_not, not_lt] at hab ⊢
      exact hab.le)
    (fun _ _ => id)
    (fun a b c hab hbc => by
      simp only [before_iff, decide_eq_false_iff_not, not_lt] at hab hbc ⊢
      exact hab.trans hbc) p q hlt
  rw [before_iff, decide_eq_false_iff_not, not_lt] at h
  exact h

/-- Replacing the column of an index. -/
theorem along_ix2 {n m : Nat} (i : Fin n) (p k : Fin m) : Shape.Idx.along (s := ⟨2, ![n, m]⟩) (ix2 i p) 1 k = ix2 i k := by
  funext b
  match b with
  | ⟨0, _⟩ => rfl
  | ⟨1, _⟩ => rfl

/-- A two-operand sort along the columns reads its second operand where the sort of the row's pairs sends each column. -/
theorem sort2_snd {n m : Nat} {α β : Type} (cmp : α × β → α × β → BitVec 1) (x : (⟨2, ![n, m]⟩ : Shape).Idx → α)
    (y : (⟨2, ![n, m]⟩ : Shape).Idx → β) (i : Fin n) (p : Fin m) :
    (Host.sort2 ⟨2, ![n, m]⟩ 1 cmp x y).2 (ix2 i p)
      = y (ix2 i (sortedFrom (fun k k' : Fin m => cmp (x (ix2 i k), y (ix2 i k)) (x (ix2 i k'), y (ix2 i k')) == 1#1) p)) := by
  have h : (fun k : Fin m => Shape.Idx.along (s := ⟨2, ![n, m]⟩) (ix2 i p) 1 k) = fun k => ix2 i k :=
    funext fun k => along_ix2 i p k
  exact congrArg (fun f : Fin m → (⟨2, ![n, m]⟩ : Shape).Idx =>
    y (f (sortedFrom (fun k k' : Fin m => cmp (x (f k), y (f k)) (x (f k'), y (f k')) == 1#1) p))) h

/-- The first 11 columns, then the last 10 of those. -/
theorem window_apply (v : IVec S8192x8192 32) (i : Fin 8192) (r : Fin 10) :
    extractStridedSlice S8192x10 ![0, 1] (extractStridedSlice S8192x11 (fun _ => 0) v sliceFits_S8192x8192_S8192x11)
      slices_S8192x11_S8192x10_0_1 (ix2 i r) = v (ix2 i ⟨r.val + 1, by omega⟩) := by
  pointwise
  exact congrArg (fun p => v (ix2 i p)) (Fin.ext (Nat.add_comm 1 r.val))

/-- The place in row `i` of the entry of rank `r + 1`. -/
def ranked (s : FVec Ideal S8192x8192 .f32) (i : Fin 8192) (r : Fin 10) : Fin 8192 :=
  rankOf (fun k : Fin 8192 => s (ix2 i k)) ⟨r.val + 1, by omega⟩

/-- The place read at `(i, r)` is that of the entry of rank `r + 1`. -/
theorem places_apply (s : FVec Ideal S8192x8192 .f32) (i : Fin 8192) (r : Fin 10) :
    places s (ix2 i r) = BitVec.ofNat 32 (ranked s i r).val := by
  unfold places Host.topK
  dsimp only
  refine (window_apply _ i r).trans ?_
  refine (sort2_snd _ _ _ i _).trans ?_
  rfl

/-- The entry taken at `(i, r)` is the one of rank `r + 1` in row `i`. -/
theorem taken_apply (s : FVec Ideal S8192x8192 .f32) (i : Fin 8192) (r : Fin 10) :
    taken s (starts (places s)) (ix2 i r) = s (ix2 i (ranked s i r)) := by
  have hst := starts_apply _ i r (ranked s i r) (places_apply s i r)
  unfold taken
  rw [select, inRow_apply _ i r (ranked s i r) hst]
  exact gather_word s _ i r (ranked s i r) hst

end Cert.ReferenceIdeal.Math

end
-- ==== Proof.Equal.lean ====
/- The kernel's result and the reference's are one number: both are the mean over the rows of
   log (sum of the row's similarities off the diagonal) − log (sum of its similarities of ranks 1 to 10). -/
module

public import proofs.«01_k».proof.Proof.KernelValue
public import proofs.«01_k».proof.Proof.Ranked

@[expose] public section

set_option maxRecDepth 16384

noncomputable section

namespace Cert.Equal

open Idealize.ShloMosaic Idealize.ShloMosaic.TcCoe Cert.Analysis
open Cert.KernelIdeal.Math (near loss near_pos)
open Cert.ReferenceIdeal.Math

/-- The argument's rows. -/
abbrev Rows : Type := FVec Ideal Cert.KernelIdeal.S8192x256 .f32

/-- Every row that is not zero has a real direction: the reference's normalised row is the direction, the kernel's the
    direction over the root of half the logarithm of two. -/
theorem directions (X : Rows) (hX : ∀ i : Fin 8192, ∃ k : Fin 256, X (ix2 i k) ≠ 0) :
    ∃ u : Fin 8192 → Fin 256 → ℝ, (∀ i k, unitRows X (ix2 i k) = ((u i k : ℝ) : EReal))
      ∧ ∀ i k, Cert.KernelIdeal.Gen.k0_pay2 (F := Ideal) X (ix2 i k) = ((u i k / √halfLn2 : ℝ) : EReal) := by
  choose u h1 h2 using fun i => row_direction (fun k : Fin 256 => X (ix2 i k)) (hX i)
  exact ⟨u, fun i k => (unitRows_apply X i k).trans (h1 i k), fun i k => (Cert.KernelIdeal.Math.pay2_apply X i k).trans (h2 i k)⟩

variable (u : Fin 8192 → Fin 256 → ℝ) (Z : FVec Ideal Cert.ReferenceIdeal.S8192x256 .f32)
  (hZ : ∀ i k, Z (ix2 i k) = ((u i k : ℝ) : EReal))
include hZ

/-- The reference's similarities of real vectors are real. -/
theorem simOf_real (i j : Fin 8192) : simOf Z (ix2 i j) = ((sim u i j : ℝ) : EReal) := by
  rw [simOf_apply, ← sim_reference]
  simp only [hZ]

/-- The ranking the reference makes of a row's similarities. -/
def rankings (i : Fin 8192) : Fin 8192 → Fin 8192 := rankOf fun j : Fin 8192 => simOf Z (ix2 i j)

/-- The similarities fall along the reference's ranking. -/
theorem rankings_antitone (i : Fin 8192) : Antitone fun k => sim u i (rankings Z i k) := fun p q hpq => by
  have h : simOf Z (ix2 i (rankings Z i q)) ≤ simOf Z (ix2 i (rankings Z i p)) :=
    rankOf_antitone (fun j : Fin 8192 => simOf Z (ix2 i j)) hpq
  rw [simOf_real u Z hZ, simOf_real u Z hZ] at h
  exact EReal.coe_le_coe_iff.mp h

/-- The reference's result: the mean of the rows' losses, the ranking being its own. -/
theorem reference_apply (hu : ∀ i, 0 < total u i) (j : Cert.ReferenceIdeal.S1x1.Idx) :
    meanLoss (taken (simOf Z) (starts (places (simOf Z)))) (offDiagonal (simOf Z)) j
      = Ideal.div ((∑ i : Fin 8192, loss u (rankings Z) i : ℝ) : EReal) ((8192 : ℝ) : EReal) := by
  rw [meanLoss_apply, coe_sum]
  refine congrArg (fun s => Ideal.div s _) (Finset.sum_congr rfl fun i _ => ?_)
  have hn : (∑ r : Fin 10, taken (simOf Z) (starts (places (simOf Z))) (ix2 i r)) = ((near u (rankings Z) i : ℝ) : EReal) := by
    rw [near, coe_sum]
    exact Finset.sum_congr rfl fun r _ => (taken_apply _ i r).trans (simOf_real u Z hZ i _)
  have ht : offDiagonal (simOf Z) (ix1 i) = ((total u i : ℝ) : EReal) := by
    rw [offDiagonal_apply]
    simp only [simOf_real u Z hZ]
    rw [← coe_sum, ← EReal.coe_sub]
    rfl
  rw [hn, ht, neg_log_div (hu i) (near_pos u (rankings Z) i)]
  rfl

omit hZ in
/-- Over rows none of which is zero the two results are equal. -/
theorem result_eq (X : Rows) (hX : ∀ i : Fin 8192, ∃ k : Fin 256, X (ix2 i k) ≠ 0) (h : 7 < Cert.KernelIdeal.cfg0.N) :
    (let s := simOf (unitRows X); meanLoss (taken s (starts (places s))) (offDiagonal s))
      = Cert.KernelIdeal.Gen.k0_pay1 (F := Ideal) (Cert.KernelIdeal.Math.accTo (Cert.KernelIdeal.Gen.k0_pay2 (F := Ideal) X) 7 h) := by
  obtain ⟨u, h1, h2⟩ := directions X hX
  have hu : ∀ i, 0 < total u i := total_pos u
  funext j
  exact (reference_apply u _ h1 hu j).trans
    (Cert.KernelIdeal.Math.result_apply u (rankings (unitRows X)) _ h2 (fun i => rankOf_bijective _)
      (rankings_antitone u _ h1) hu j h).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.NonzeroRows
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs on the host alone: its arguments end unchanged and it signals nothing. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- From arguments that agree, no row of which is zero, the reference ends with the kernel's result. -/
theorem algebraic : Cert.algebraic_KernelIdeal_ReferenceIdeal_pre_nonzero_rows := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  have h := hagree c
  rw [Cert.ReferenceIdeal.Math.result_eq, Cert.KernelIdeal.Math.G1_eq, h]
  exact Cert.Equal.result_eq _ (Cert.Pre_nonzero_rows.row_nonzero _ (hpre c)) _

/-- Everything the certificate claims. -/
theorem claim : Cert.Claim :=
  ⟨Cert.Kernel.Gen.facts, Cert.KernelIdeal.Gen.facts, Cert.ReferenceIdeal.Gen.facts, Cert.Pre_nonzero_rows.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    IdealRules.named_const.statement Cert.KernelIdeal.κ "half_ln2" .f32 0x3EB17218#32 (((1 / 2) * (Real.log 2) : ℝ) : EReal) rfl,
    algebraic⟩

end Cert.Proof

end
